-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys_KernelIdeal [hPre_finite_queries_keys_KernelIdeal : Cert.Pre_finite_queries_keys_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys_ReferenceIdeal [hPre_finite_queries_keys_ReferenceIdeal : Cert.Pre_finite_queries_keys_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_keys_KernelIdeal [hKernelIdeal : Cert.KernelIdeal.Facts] [hPre_finite_queries_keys_KernelIdeal : Cert.Pre_finite_queries_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_keys_ReferenceIdeal [hReferenceIdeal : Cert.ReferenceIdeal.Facts] [hPre_finite_queries_keys_ReferenceIdeal : Cert.Pre_finite_queries_keys_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_queries_keys_KernelIdeal [hKernelIdeal : Cert.KernelIdeal.Facts] [hReferenceIdeal : Cert.ReferenceIdeal.Facts] [hPre_finite_queries_keys_KernelIdeal : Cert.Pre_finite_queries_keys_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 8192, 8, 128]⟩ (Layout.meshBlock [2, 2] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 8192, 8, 128]⟩ (Layout.meshBlock [2, 2] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_queries_keys_KernelIdeal : Cert.Pre_finite_queries_keys_KernelIdeal.Facts) (hPre_finite_queries_keys_ReferenceIdeal : Cert.Pre_finite_queries_keys_ReferenceIdeal.Facts),
    quiescent_Kernel (hKernel := hKernel)
    ∧ quiescent_KernelIdeal (hKernelIdeal := hKernelIdeal)
    ∧ quiescent_KernelIdeal_pre_finite_queries_keys_KernelIdeal (hKernelIdeal := hKernelIdeal) (hPre_finite_queries_keys_KernelIdeal := hPre_finite_queries_keys_KernelIdeal)
    ∧ quiescent_ReferenceIdeal (hReferenceIdeal := hReferenceIdeal)
    ∧ quiescent_ReferenceIdeal_pre_finite_queries_keys_ReferenceIdeal (hReferenceIdeal := hReferenceIdeal) (hPre_finite_queries_keys_ReferenceIdeal := hPre_finite_queries_keys_ReferenceIdeal)
    ∧ preserves_Kernel_KernelIdeal
    ∧ algebraic_KernelIdeal_ReferenceIdeal_pre_finite_queries_keys_KernelIdeal (hKernelIdeal := hKernelIdeal) (hReferenceIdeal := hReferenceIdeal) (hPre_finite_queries_keys_KernelIdeal := hPre_finite_queries_keys_KernelIdeal)
-- ==== Pre_finite_queries_keys_KernelIdeal.lean ====
abbrev S4x32x8x128 : Shape := ⟨4, ![4, 32, 8, 128]⟩
abbrev S4x4096x8x128 : Shape := ⟨4, ![4, 4096, 8, 128]⟩
abbrev S_ : Shape := ⟨0, ![]⟩

class Facts : Prop where
  bcast_S_S4x32x8x128 : S_.BroadcastsInDim S4x32x8x128 (![] : Fin 0 → Fin S4x32x8x128.rank)
  reducesTo_S4x32x8x128_S_d0_1_2_3 : S4x32x8x128.ReducesTo [0, 1, 2, 3] S_
  h_S_ : 0 < S_.numel
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_

variable [Facts]

def fn {F : FTy → Type} [FloatOps F] (main_arg0 : FVec F S4x32x8x128 .f32) (main_arg1 : FVec F S4x4096x8x128 .f32) (main_arg2 : FVec F S4x4096x8x128 .f32) : IVec S_ 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_c : IVec S_ 1 := constantI S_ 1 1#1
  let main_v3 : IVec S_ 1 := (fun x v => Host.reduce IntOp.andi x v reducesTo_S4x32x8x128_S_d0_1_2_3 h_S_) main_v2 main_c
  let main_v4 : FVec F S4x4096x8x128 .f32 := Host.absf main_arg1
  let main_cst_0 : FVec F S_ .f32 := constant S_ .f32 0x7F800000#32
  let main_v5 : FVec F S4x4096x8x128 .f32 := broadcastInDim S4x4096x8x128 ![] bcast_S_S4x4096x8x128 main_cst_0
  let main_v6 : IVec S4x4096x8x128 1 := cmpf .olt main_v4 main_v5
  let main_c_1 : IVec S_ 1 := constantI S_ 1 1#1
  let main_v7 : IVec S_ 1 := (fun x v => Host.reduce IntOp.andi x v reducesTo_S4x4096x8x128_S_d0_1_2_3 h_S_) main_v6 main_c_1
  let main_v8 : IVec S_ 1 := andi main_v3 main_v7
  main_v8
-- ==== Pre_finite_queries_keys_ReferenceIdeal.lean ====
abbrev S4x32x8x128 : Shape := ⟨4, ![4, 32, 8, 128]⟩
abbrev S4x8192x8x128 : Shape := ⟨4, ![4, 8192, 8, 128]⟩
abbrev S_ : Shape := ⟨0, ![]⟩

class Facts : Prop where
  bcast_S_S4x32x8x128 : S_.BroadcastsInDim S4x32x8x128 (![] : Fin 0 → Fin S4x32x8x128.rank)
  reducesTo_S4x32x8x128_S_d0_1_2_3 : S4x32x8x128.ReducesTo [0, 1, 2, 3] S_
  h_S_ : 0 < S_.numel
  bcast_S_S4x8192x8x128 : S_.BroadcastsInDim S4x8192x8x128 (![] : Fin 0 → Fin S4x8192x8x128.rank)
  reducesTo_S4x8192x8x128_S_d0_1_2_3 : S4x8192x8x128.ReducesTo [0, 1, 2, 3] S_

variable [Facts]

def fn {F : FTy → Type} [FloatOps F] (main_arg0 : FVec F S4x32x8x128 .f32) (main_arg1 : FVec F S4x8192x8x128 .f32) (main_arg2 : FVec F S4x8192x8x128 .f32) : IVec S_ 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_c : IVec S_ 1 := constantI S_ 1 1#1
  let main_v3 : IVec S_ 1 := (fun x v => Host.reduce IntOp.andi x v reducesTo_S4x32x8x128_S_d0_1_2_3 h_S_) main_v2 main_c
  let main_v4 : FVec F S4x8192x8x128 .f32 := Host.absf main_arg1
  let main_cst_0 : FVec F S_ .f32 := constant S_ .f32 0x7F800000#32
  let main_v5 : FVec F S4x8192x8x128 .f32 := broadcastInDim S4x8192x8x128 ![] bcast_S_S4x8192x8x128 main_cst_0
  let main_v6 : IVec S4x8192x8x128 1 := cmpf .olt main_v4 main_v5
  let main_c_1 : IVec S_ 1 := constantI S_ 1 1#1
  let main_v7 : IVec S_ 1 := (fun x v => Host.reduce IntOp.andi x v reducesTo_S4x8192x8x128_S_d0_1_2_3 h_S_) main_v6 main_c_1
  let main_v8 : IVec S_ 1 := andi main_v3 main_v7
  main_v8
-- ==== Kernel.lean ====
abbrev S4x32x8x128 : Shape := ⟨4, ![4, 32, 8, 128]⟩
abbrev S4x4096x8x128 : Shape := ⟨4, ![4, 4096, 8, 128]⟩
abbrev S4x32x8x2 : Shape := ⟨4, ![4, 32, 8, 2]⟩
abbrev S1x32x8x128 : Shape := ⟨4, ![1, 32, 8, 128]⟩
abbrev S1x512x8x128 : Shape := ⟨4, ![1, 512, 8, 128]⟩
abbrev S1x32x8x2 : Shape := ⟨4, ![1, 32, 8, 2]⟩
abbrev S256x128 : Shape := ⟨2, ![256, 128]⟩
abbrev S1x32x1x128 : Shape := ⟨4, ![1, 32, 1, 128]⟩
abbrev S32x128 : Shape := ⟨2, ![32, 128]⟩
abbrev S1x512x1x128 : Shape := ⟨4, ![1, 512, 1, 128]⟩
abbrev S512x128 : Shape := ⟨2, ![512, 128]⟩
abbrev S32x512 : Shape := ⟨2, ![32, 512]⟩
abbrev S32x1 : Shape := ⟨2, ![32, 1]⟩
abbrev S32 : Shape := ⟨1, ![32]⟩
abbrev S1x32x1x1 : Shape := ⟨4, ![1, 32, 1, 1]⟩
abbrev S2 : Shape := ⟨1, ![2]⟩
abbrev S_ : Shape := ⟨0, ![]⟩
abbrev S1 : Shape := ⟨1, ![1]⟩
abbrev S4x32x8x1 : Shape := ⟨4, ![4, 32, 8, 1]⟩

abbrev nBuf : Space → Nat
  | .hbm => 6
  | .vmem => 18
  | .smem => 0
  | _ => 0

abbrev bufTy : (tb : Table) → Fin (tcTables nBuf tb) → BufTy
  | .hbm, ⟨0, _⟩ => ⟨S4x32x8x128, .f32⟩
  | .hbm, ⟨1, _⟩ => ⟨S4x4096x8x128, .f32⟩
  | .hbm, ⟨2, _⟩ => ⟨S4x4096x8x128, .f32⟩
  | .hbm, ⟨3, _⟩ => ⟨S4x32x8x128, .f32⟩
  | .hbm, ⟨4, _⟩ => ⟨S4x32x8x2, .f32⟩
  | .hbm, ⟨5, _⟩ => ⟨S4x32x8x128, .f32⟩
  | .local _ .vmem, ⟨0, _⟩ => ⟨S1x32x8x128, .f32⟩
  | .local _ .vmem, ⟨1, _⟩ => ⟨S1x32x8x128, .f32⟩
  | .local _ .vmem, ⟨2, _⟩ => ⟨S1x512x8x128, .f32⟩
  | .local _ .vmem, ⟨3, _⟩ => ⟨S1x512x8x128, .f32⟩
  | .local _ .vmem, ⟨4, _⟩ => ⟨S1x512x8x128, .f32⟩
  | .local _ .vmem, ⟨5, _⟩ => ⟨S1x512x8x128, .f32⟩
  | .local _ .vmem, ⟨6, _⟩ => ⟨S1x32x8x128, .f32⟩
  | .local _ .vmem, ⟨7, _⟩ => ⟨S1x32x8x128, .f32⟩
  | .local _ .vmem, ⟨8, _⟩ => ⟨S1x32x8x2, .f32⟩
  | .local _ .vmem, ⟨9, _⟩ => ⟨S1x32x8x2, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S4x32x8x128, .f32⟩
  | .local _ .vmem, ⟨14, _⟩ => ⟨S4x32x8x2, .f32⟩
  | .local _ .vmem, ⟨15, _⟩ => ⟨S4x32x8x128, .f32⟩
  | .local _ .vmem, ⟨16, _⟩ => ⟨S4x32x8x128, .f32⟩
  | .local _ .vmem, ⟨17, _⟩ => ⟨S4x32x8x2, .f32⟩
  | _, _ => ⟨S4x32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_scratch0 : Ref sig .tc := ⟨.vmem, 16, rfl⟩
abbrev cc1_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev barrier0 : Sem sig := 0

abbrev nD : Nat := 4
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v331 : BitVec 1 := Scalar.cmpi .eq arg1 c7_i32
  let v332 : BitVec 32 := Scalar.extui v331
  let c0_i32_217 : BitVec 32 := 0#32
  let v333 : BitVec 1 := Scalar.cmpi .ne v332 c0_i32_217
  v333

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x8x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := .none

def k1_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k1_dev2 (d0 : Dev nD) : Nat :=
  let c0_i32_10 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_9 : BitVec 32 := 2#32
  let v12 : BitVec 32 := Scalar.muli v2 c2_i32_9
  let v13 : BitVec 32 := Scalar.addi c0_i32_10 v12
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_11 : BitVec 32 := 1#32
  let v14 : BitVec 32 := Scalar.muli v6 c1_i32_11
  let v15 : BitVec 32 := Scalar.addi v13 v14
  v15.toNat
def k1_dev3 (d0 : Dev nD) : Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_14 : BitVec 32 := 2#32
  let v20 : BitVec 32 := Scalar.muli v2 c2_i32_14
  let v21 : BitVec 32 := Scalar.addi c0_i32_15 v20
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_16 : BitVec 32 := 1#32
  let v22 : BitVec 32 := Scalar.muli v6 c1_i32_16
  let v23 : BitVec 32 := Scalar.addi v21 v22
  v23.toNat
abbrev stage1_0 : Fin 1 → Memref sig .tc .vmem S4x32x8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x32x8x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x32x8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
-- ==== ReferenceIdeal.lean ====
abbrev S4x32x8x128 : Shape := ⟨4, ![4, 32, 8, 128]⟩
abbrev S4x8192x8x128 : Shape := ⟨4, ![4, 8192, 8, 128]⟩
abbrev S4x8x32x8192 : Shape := ⟨4, ![4, 8, 32, 8192]⟩
abbrev S_ : Shape := ⟨0, ![]⟩
abbrev S4x8x32 : Shape := ⟨3, ![4, 8, 32]⟩
abbrev S4x8x32x1 : Shape := ⟨4, ![4, 8, 32, 1]⟩
abbrev S4x8x128x32 : Shape := ⟨4, ![4, 8, 128, 32]⟩

abbrev nBuf : Space → Nat
  | .hbm => 20
  | .vmem => 0
  | .smem => 0
  | _ => 0

abbrev bufTy : (tb : Table) → Fin (tcTables nBuf tb) → BufTy
  | .hbm, ⟨0, _⟩ => ⟨S4x32x8x128, .f32⟩
  | .hbm, ⟨1, _⟩ => ⟨S4x8192x8x128, .f32⟩
  | .hbm, ⟨2, _⟩ => ⟨S4x8192x8x128, .f32⟩
  | .hbm, ⟨3, _⟩ => ⟨S4x8x32x8192, .f32⟩
  | .hbm, ⟨4, _⟩ => ⟨S_, .f32⟩
  | .hbm, ⟨5, _⟩ => ⟨S4x8x32x8192, .f32⟩
  | .hbm, ⟨6, _⟩ => ⟨S4x8x32x8192, .f32⟩
  | .hbm, ⟨7, _⟩ => ⟨S_, .f32⟩
  | .hbm, ⟨8, _⟩ => ⟨S4x8x32, .f32⟩
  | .hbm, ⟨9, _⟩ => ⟨S4x8x32x1, .f32⟩
  | .hbm, ⟨10, _⟩ => ⟨S4x8x32x8192, .f32⟩
  | .hbm, ⟨11, _⟩ => ⟨S4x8x32x8192, .f32⟩
  | .hbm, ⟨12, _⟩ => ⟨S4x8x32x8192, .f32⟩
  | .hbm, ⟨13, _⟩ => ⟨S_, .f32⟩
  | .hbm, ⟨14, _⟩ => ⟨S4x8x32, .f32⟩
  | .hbm, ⟨15, _⟩ => ⟨S4x8x32x1, .f32⟩
  | .hbm, ⟨16, _⟩ => ⟨S4x8x32x8192, .f32⟩
  | .hbm, ⟨17, _⟩ => ⟨S4x8x32x8192, .f32⟩
  | .hbm, ⟨18, _⟩ => ⟨S4x8x128x32, .f32⟩
  | .hbm, ⟨19, _⟩ => ⟨S4x32x8x128, .f32⟩
  | _, _ => ⟨S4x32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Talk.Schedule.lean ====
/- The protocol of the communication call.

   Devices 0 and 1 merge with each other, and so do 2 and 3: `pr c` is the device `c` merges with. Each device has five
   cells, each paid once, by `pr c` or by the device itself:
   * the barrier: one unit from `pr c`'s signal, with which come `pr c`'s two receive buffers (at anything) and that its two
     receive cells are open;
   * the two receive cells: paid by `pr c`'s two copies, with which the device's receive buffers come back, holding what
     `pr c`'s flash-decoding call left (its unnormalised sums, and its statistics);
   * the two send cells: paid by the device's own copies, with which its source buffers come back.
   A device waits on its barrier owing only receive credits, and on the others owing nothing, so with the barriers below the
   receive cells no wait is circular. -/
module

public import proofs.«01_k».proof.Proof.Gen.KernelIdeal.Regions

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

abbrev UU := UR sig nD τ × UR sig nD τ

local notation "𝕄" => MT nD τ sig Unit (Elt F) ℕ UU ℕ

/-- The protocol's ghost state is the second component. -/
abbrev ER : Emb (UR sig nD τ) 𝕄 := embR
/-- The pipeline library's is the first. -/
abbrev EP : Emb (UR sig nD τ) 𝕄 := embL

/-! ## Who talks with whom, and over which cells -/

/-- The device that device `c` merges with. -/
def pr (c : Dev nD) : Dev nD := ⟨k1_dev1 c, k1_dev1_lt c⟩

theorem pr_pr : ∀ c : Dev nD, pr (pr c) = c := by decide
theorem dev2_eq : ∀ c : Dev nD, (⟨k1_dev2 c, k1_dev2_lt c⟩ : Dev nD) = pr c := by decide
theorem dev3_eq : ∀ c : Dev nD, (⟨k1_dev3 c, k1_dev3_lt c⟩ : Dev nD) = pr c := by decide

/-- The devices, each sent to the one it merges with. -/
def swap : Dev nD ≃ Dev nD := ⟨pr, pr, pr_pr, pr_pr⟩

abbrev barS : Sem sig := (SemArray.scalar (sig.barrier 0 rfl) : Sems sig S_).sem
abbrev sendO : DmaSem sig := ((cc1_scratch2.slice (Rect.unit (s := S2) ![0] S1.size inb_S2_S1_0)).squeeze S_ squeezes_S1_S_).sem
abbrev sendT : DmaSem sig := ((cc1_scratch2.slice (Rect.unit (s := S2) ![1] S1.size inb_S2_S1_1)).squeeze S_ squeezes_S1_S_).sem
abbrev recvO : DmaSem sig := ((cc1_scratch3.slice (Rect.unit (s := S2) ![0] S1.size inb_S2_S1_0)).squeeze S_ squeezes_S1_S_).sem
abbrev recvT : DmaSem sig := ((cc1_scratch3.slice (Rect.unit (s := S2) ![1] S1.size inb_S2_S1_1)).squeeze S_ squeezes_S1_S_).sem

abbrev barCell (c : Dev nD) : GSem nD τ sig := ((c : Thread nD τ), .reg barS)
abbrev sendOCell (c : Dev nD) : GSem nD τ sig := ((c : Thread nD τ), .dma sendO)
abbrev sendTCell (c : Dev nD) : GSem nD τ sig := ((c : Thread nD τ), .dma sendT)
abbrev recvOCell (c : Dev nD) : GSem nD τ sig := ((c : Thread nD τ), .dma recvO)
abbrev recvTCell (c : Dev nD) : GSem nD τ sig := ((c : Thread nD τ), .dma recvT)

/-- The call's own semaphores, and all five. -/
abbrev osem : Fin 4 → SemLoc sig := fun | 0 => .dma sendO | 1 => .dma sendT | 2 => .dma recvO | 3 => .dma recvT
abbrev tsem : Fin 5 → SemLoc sig := fun | 0 => .reg barS | 1 => .dma sendO | 2 => .dma sendT | 3 => .dma recvO | 4 => .dma recvT
theorem osem_inj : Function.Injective osem := by decide
theorem tsem_inj : Function.Injective tsem := by decide

/-- Which of the five a semaphore is. -/
def kind (s : SemLoc sig) : Option (Fin 5) :=
  if s = tsem 0 then some 0 else if s = tsem 1 then some 1 else if s = tsem 2 then some 2 else if s = tsem 3 then some 3
  else if s = tsem 4 then some 4 else none
theorem kind_tsem : ∀ k, kind (tsem k) = some k := by decide

/-! ## The buffers -/

/-- The source of the sums' copy, of the statistics' copy, and where each lands. -/
abbrev srcO : Memref sig .tc .vmem S4x32x8x128 .f32 := Memref.whole cc1_stg0_0
abbrev srcT : Memref sig .tc .vmem S4x32x8x2 .f32 := Memref.whole cc1_stg1_0
abbrev dstO : Memref sig .tc .vmem S4x32x8x128 .f32 := Memref.whole cc1_scratch0
abbrev dstT : Memref sig .tc .vmem S4x32x8x2 .f32 := Memref.whole cc1_scratch1

abbrev NO : ℕ := dstO.view.dmaCredit
abbrev NT : ℕ := dstT.view.dmaCredit
theorem NO_pos : 0 < NO := View.dmaCredit_pos _ (by decide)
theorem NT_pos : 0 < NT := View.dmaCredit_pos _ (by decide)

abbrev srcOPts (c : Dev nD) (x : Vec F S4x32x8x128 .f32) : sProp 𝕄 := srcO.view.loc (c : Thread nD τ) ↦[srcO.view.set]{fullShare} x
abbrev srcTPts (c : Dev nD) (y : Vec F S4x32x8x2 .f32) : sProp 𝕄 := srcT.view.loc (c : Thread nD τ) ↦[srcT.view.set]{fullShare} y
abbrev dstOPts (c : Dev nD) (x : Vec F S4x32x8x128 .f32) : sProp 𝕄 := dstO.view.loc (c : Thread nD τ) ↦[dstO.view.set]{fullShare} x
abbrev dstTPts (c : Dev nD) (y : Vec F S4x32x8x2 .f32) : sProp 𝕄 := dstT.view.loc (c : Thread nD τ) ↦[dstT.view.set]{fullShare} y

/-- A copy between whole buffers leaves the source's contents at the destination. -/
theorem landO (fd fs : Vec F S4x32x8x128 .f32) :
    dstO.view.write (Elt F) fd (srcO.view.read (Elt F) fs) Finset.univ = fs := by
  show (View.whole cc1_scratch0).write (Elt F) fd ((View.whole cc1_stg0_0).read (Elt F) fs) Finset.univ = fs
  rw [View.read_whole]
  exact View.write_whole_univ _ _ _
theorem landT (fd fs : Vec F S4x32x8x2 .f32) :
    dstT.view.write (Elt F) fd (srcT.view.read (Elt F) fs) Finset.univ = fs := by
  show (View.whole cc1_scratch1).write (Elt F) fd ((View.whole cc1_stg1_0).read (Elt F) fs) Finset.univ = fs
  rw [View.read_whole]
  exact View.write_whole_univ _ _ _

/-! ## The schedule, over what the copies' sources hold on each device -/

variable (X : Dev nD → Vec F S4x32x8x128 .f32) (Y : Dev nD → Vec F S4x32x8x2 .f32)

/-- What comes with the barrier's unit. -/
def barPay (c : Dev nD) : sProp 𝕄 :=
  iprop((∃ f, dstOPts (pr c) f) ∗ (∃ f, dstTPts (pr c) f) ∗ reached ER (recvOCell (pr c)) 0 ∗ reached ER (recvTCell (pr c)) 0)

/-- What a device's cell of each kind hands over, -/
def pay (c : Dev nD) : Fin 5 → sProp 𝕄
  | 0 => barPay c
  | 1 => srcOPts c (X c)
  | 2 => srcTPts c (Y c)
  | 3 => dstOPts c (X (pr c))
  | 4 => dstTPts c (Y (pr c))
/-- and for how much. -/
def price : Fin 5 → ℕ
  | 0 => 1
  | 1 => NO
  | 2 => NT
  | 3 => NO
  | 4 => NT
theorem price_pos : ∀ k, 0 < price k
  | 0 => Nat.one_pos
  | 1 => NO_pos
  | 2 => NT_pos
  | 3 => NO_pos
  | 4 => NT_pos

/-- One duty on each of a TensorCore's five cells, in round 0. -/
def talkRd : Rounds.Schedule (GSem nD τ sig) Unit 𝕄 where
  duties g r := if r = 0 ∧ g.1.2 = .tc ∧ (kind g.2).isSome then {()} else ∅
  unitless _ := False
  amount g _ _ := ((kind g.2).map price).getD 1
  payload g _ _ := match kind g.2 with
    | some k => pay X Y g.1.1 k
    | none => iprop(emp)
  amount_pos g _ _ _ := by
    cases kind g.2 with
    | none => exact Nat.one_pos
    | some k => exact price_pos k

instance pay_storable (c : Dev nD) (k : Fin 5) : BI.Storable (upEmb : UEmb _ 𝕄) (pay X Y c k) := by
  unfold pay barPay
  split <;> infer_instance

instance talkRd_payload_storable (g : GSem nD τ sig) (r : ℕ) (d : Unit) :
    BI.Storable (upEmb : UEmb _ 𝕄) ((talkRd X Y).payload g r d) := by
  show BI.Storable upEmb (match kind g.2 with | some k => pay X Y g.1.1 k | none => iprop(emp))
  split <;> infer_instance

section
variable (c : Dev nD) (k : Fin 5)

theorem duties_at : (talkRd X Y).duties ((c : Thread nD τ), tsem k) 0 = {()} := by
  dsimp only [talkRd]; rw [kind_tsem]; exact if_pos ⟨rfl, rfl, rfl⟩
theorem mem_duties : () ∈ (talkRd X Y).duties ((c : Thread nD τ), tsem k) 0 := by
  rw [duties_at]; exact Finset.mem_singleton_self _
theorem duties_later (g : GSem nD τ sig) : ∀ r, 1 ≤ r → (talkRd X Y).duties g r = ∅ :=
  fun r hr => by dsimp only [talkRd]; rw [if_neg fun h => by omega]
theorem amount_at (u : Unit) : (talkRd X Y).amount ((c : Thread nD τ), tsem k) 0 u = price k := by
  dsimp only [talkRd]; rw [kind_tsem]; rfl
theorem expect_at : (talkRd X Y).expect ((c : Thread nD τ), tsem k) 0 = price k := by
  unfold Schedule.expect Schedule.amountOf; rw [duties_at, Finset.sum_singleton, amount_at]
theorem payload_at (u : Unit) : (talkRd X Y).payload ((c : Thread nD τ), tsem k) 0 u = pay X Y c k := by
  dsimp only [talkRd]; rw [kind_tsem]
theorem rest_at : bigSep ((talkRd X Y).duties ((c : Thread nD τ), tsem k) 0 \ ∅)
    (fun u => (talkRd X Y).payload ((c : Thread nD τ), tsem k) 0 u) = pay X Y c k := by
  rw [Finset.sdiff_empty, duties_at, bigSep_singleton, payload_at]
end

/-! ## What each core owes at launch; the levels -/

/-- The credits of the other device's two receive cells, which the copies pay, -/
def Ocopies (c : Dev nD) : CellTallies nD τ sig Unit := tallyAt (recvTCell (pr c)) () NT + tallyAt (recvOCell (pr c)) () NO
/-- and the other device's barrier unit, which the signal pays. -/
def O₀ (c : Dev nD) : CellTallies nD τ sig Unit := Ocopies c + tallyAt (barCell (pr c)) () 1

def L (g : GSem nD τ sig) : Finset Unit := if g.1.2 = .tc then {()} else ∅
/-- Barriers at 1, receive cells at 2, the rest at 0. -/
def lv (g : GSem nD τ sig) (_ : Unit) : ℕ :=
  if g.2 = tsem 0 then 1 else if g.2 = tsem 3 ∨ g.2 = tsem 4 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recvO (c : Dev nD) : lv (recvOCell c) () = 2 := by
  unfold lv; rw [if_neg fun h => absurd (tsem_inj (a₁ := 3) (a₂ := 0) h) (by decide), if_pos (.inl rfl)]
theorem lv_recvT (c : Dev nD) : lv (recvTCell c) () = 2 := by
  unfold lv; rw [if_neg fun h => absurd (tsem_inj (a₁ := 4) (a₂ := 0) h) (by decide), if_pos (.inr rfl)]

theorem tally_pos {g g' : GSem nD τ sig} {n : ℕ} {u : Unit} (h : 0 < tallyAt g () n g' u) : g' = g := by
  rw [tallyAt_apply] at h
  split at h
  · next hg => exact hg.1
  · exact absurd h (Nat.lt_irrefl 0)

theorem Ocopies_pos {c : Dev nD} {g : GSem nD τ sig} {u : Unit} (h : 0 < Ocopies c g u) :
    g = recvTCell (pr c) ∨ g = recvOCell (pr c) := by
  unfold Ocopies at h
  rw [Pi.add_apply, Finsupp.add_apply] at h
  exact (Nat.add_pos_iff_pos_or_pos.mp h).imp tally_pos tally_pos

theorem O₀_pos {c : Dev nD} {g : GSem nD τ sig} {u : Unit} (h : 0 < O₀ c g u) : u ∈ L g ∧ 0 < lv g u := by
  unfold O₀ at h
  rw [Pi.add_apply, Finsupp.add_apply] at h
  rcases Nat.add_pos_iff_pos_or_pos.mp h with h | h
  · rcases Ocopies_pos h with rfl | rfl
    · rw [L_tc, lv_recvT]; exact ⟨Finset.mem_singleton_self _, Nat.zero_lt_two⟩
    · rw [L_tc, lv_recvO]; exact ⟨Finset.mem_singleton_self _, Nat.zero_lt_two⟩
  · rw [tally_pos h, L_tc, lv_bar]; exact ⟨Finset.mem_singleton_self _, Nat.one_pos⟩

/-- A core may wait on its barrier while it owes the receive credits. -/
theorem mayWait_bar (c : Dev nD) :
    (levAts L lv : sProp 𝕄) ⊢ MayWait (c : Thread nD τ) (.reg barS) () (Ocopies c) :=
  MayOwe.of_cut (L := L) (lev := lv) 1 (fun p hp => by rw [Finset.mem_singleton.mp hp, L_tc]; exact Finset.mem_singleton_self _)
    (fun g u hg => by rcases Ocopies_pos hg with rfl | rfl <;> (rw [L_tc]; exact Finset.mem_singleton_self _))
    (fun p hp => by rw [Finset.mem_singleton.mp hp]; exact (lv_bar c).le)
    (fun g u hg => by
      rcases Ocopies_pos hg with rfl | rfl
      · exact (lv_recvT _).symm ▸ (by decide)
      · exact (lv_recvO _).symm ▸ (by decide))

/-! ## The protocol's ghost state -/

/-- The invariants device `c` opens, at the names `K`: its own five, and three of the other device's. -/
def invs (K : GSem nD τ sig → ℕ) (c : Dev nD) : sProp 𝕄 :=
  iprop(cellInv ER (talkRd X Y) (K (barCell c)) (barCell c)
    ∗ cellInv ER (talkRd X Y) (K (sendOCell c)) (sendOCell c) ∗ cellInv ER (talkRd X Y) (K (sendTCell c)) (sendTCell c)
    ∗ cellInv ER (talkRd X Y) (K (recvOCell c)) (recvOCell c) ∗ cellInv ER (talkRd X Y) (K (recvTCell c)) (recvTCell c)
    ∗ cellInv ER (talkRd X Y) (K (barCell (pr c))) (barCell (pr c))
    ∗ cellInv ER (talkRd X Y) (K (recvOCell (pr c))) (recvOCell (pr c)) ∗ cellInv ER (talkRd X Y) (K (recvTCell (pr c))) (recvTCell (pr c)))

instance invs_persistent (K : GSem nD τ sig → ℕ) (c : Dev nD) : BI.Persistent (invs X Y K c) := by unfold invs; infer_instance

/-- The five duties device `c` pays. -/
def payToks (c : Dev nD) : sProp 𝕄 :=
  iprop(dutyTok ER (barCell (pr c)) 0 () ∗ dutyTok ER (sendOCell c) 0 () ∗ dutyTok ER (sendTCell c) 0 ()
    ∗ dutyTok ER (recvOCell (pr c)) 0 () ∗ dutyTok ER (recvTCell (pr c)) 0 ())

/-- What device `c` carries from launch to the communication call: its place on its barrier, the rights to open its four
    other cells, and what it pays with. -/
def ghost (K : GSem nD τ sig → ℕ) (c : Dev nD) : sProp 𝕄 :=
  iprop(invs X Y K c ∗ atPos ER (barCell c) 0 ∅ 0
    ∗ (openTok ER (sendOCell c) ∗ openTok ER (sendTCell c) ∗ openTok ER (recvOCell c) ∗ openTok ER (recvTCell c))
    ∗ reached ER (barCell (pr c)) 0 ∗ payToks c)

/-- The same once the four cells are open. -/
def opened (K : GSem nD τ sig → ℕ) (c : Dev nD) : sProp 𝕄 :=
  iprop(invs X Y K c ∗ atPos ER (barCell c) 0 ∅ 0
    ∗ ((atPos ER (sendOCell c) 0 ∅ 0 ∗ reached ER (sendOCell c) 0) ∗ (atPos ER (sendTCell c) 0 ∅ 0 ∗ reached ER (sendTCell c) 0)
      ∗ (atPos ER (recvOCell c) 0 ∅ 0 ∗ reached ER (recvOCell c) 0) ∗ (atPos ER (recvTCell c) 0 ∅ 0 ∗ reached ER (recvTCell c) 0))
    ∗ reached ER (barCell (pr c)) 0 ∗ payToks c)

/-- The credits device `c` waits with on the cells it does not pay itself. -/
def creds (c : Dev nD) : sProp 𝕄 :=
  iprop(cred (tallyAt (barCell c) () 1) ∗ cred (tallyAt (recvOCell c) () NO) ∗ cred (tallyAt (recvTCell c) () NT))

/-- A cell whose one round is over closes, its counter at zero. -/
theorem close (κ : ℕ) (g : GSem nD τ sig) :
    iprop(cellInv ER (talkRd X Y) κ g ∗ atPos ER g (0 + 1) ∅ 0) ⊢ (|={Set.univ}=> semVal g 0 : sProp 𝕄) :=
  Rounds.cell_close ER (talkRd X Y) (Set.mem_univ κ) id (duties_later X Y g)

/-- A dormant cell opens, at its first round. -/
theorem openCell (κ : ℕ) (g : GSem nD τ sig) :
    iprop(cellInv ER (talkRd X Y) κ g ∗ openTok ER g ∗ semVal g 0) ⊢ (|={Set.univ}=> (atPos ER g 0 ∅ 0 ∗ reached ER g 0) : sProp 𝕄) :=
  Rounds.cell_open ER (talkRd X Y) (Set.mem_univ κ)

end Cert.KernelIdeal.Talk
-- ==== Proof.Talk.Body.lean ====
/- The communication call's body, run at a device under the protocol of `Schedule`: it leaves the merge of the device's own
   sums and statistics with those of the device it merges with, and its five counters at zero. -/
module

public import proofs.«01_k».proof.Proof.Talk.Schedule
public import proofs.«01_k».proof.Proof.Gen.KernelIdeal.Skeleton
public import Idealize.ShloMosaic.Lib.Pipeline.FrameBody
public import Idealize.ShloMosaic.Lib.Pipeline.Value
public import Idealize.ShloMosaic.Lib.Pipeline.ValueKit.Geometry
public import Idealize.ShloMosaic.Lib.WholeRead
public import Idealize.ShloMosaic.Lib.Tactic

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev 𝒱₀ : Variants := Variants.none

/-! ## The merge -/

/-- The running maxima (column 0) and the sums of exponentials (column 1) of a device's statistics. -/
def maxOf (y : Vec F S4x32x8x2 .f32) : Vec F S4x32x8x1 .f32 :=
  fun j => y ((Rect.unit (s := S4x32x8x2) ![0, 0, 0, 0] S4x32x8x1.size inb_S4x32x8x2_S4x32x8x1_0_0_0_0).toLoadRect.idx j)
def sumOf (y : Vec F S4x32x8x2 .f32) : Vec F S4x32x8x1 .f32 :=
  fun j => y ((Rect.unit (s := S4x32x8x2) ![0, 0, 0, 1] S4x32x8x1.size inb_S4x32x8x2_S4x32x8x1_0_0_0_1).toLoadRect.idx j)

/-- The merge of a device's sums and statistics `x`, `y` with another's `x'`, `y'`. -/
def merge (x : Vec F S4x32x8x128 .f32) (y : Vec F S4x32x8x2 .f32) (x' : Vec F S4x32x8x128 .f32) (y' : Vec F S4x32x8x2 .f32) :
    Vec F S4x32x8x128 .f32 :=
  k1_pay1 (k1_pay4 (maxOf y) (maxOf y')) (k1_pay5 (maxOf y) (maxOf y')) (k1_pay6 (maxOf y) (sumOf y) (maxOf y') (sumOf y')) x x'

theorem zeros : (![0, 0, 0, 0] : Fin 4 → ℕ) = fun _ => 0 := by decide

/-- A read or a store of a whole buffer. -/
theorem readAt_all {b : Memref sig .tc .vmem S4x32x8x128 .f32} (x : b.view.ty.Contents (Elt F)) :
    View.readAt (Elt F) b.view (Rect.unit (s := S4x32x8x128) ![0, 0, 0, 0] S4x32x8x128.size inb_S4x32x8x128_S4x32x8x128_0_0_0_0).toLoadRect x
      = b.view.read (Elt F) x := by
  funext j
  show b.view.read (Elt F) x ((Rect.unit (s := S4x32x8x128) ![0, 0, 0, 0] S4x32x8x128.size inb_S4x32x8x128_S4x32x8x128_0_0_0_0).toLoadRect.idx j) = _
  congr 1
  funext k
  refine Fin.ext ?_
  fin_cases k <;> simp [LoadRect.idx, Rect.toLoadRect, Rect.unit]
theorem read_writes_all {b : Memref sig .tc .vmem S4x32x8x128 .f32} (g : b.view.ty.Contents (Elt F)) (x : Vec F S4x32x8x128 .f32) :
    b.view.read (Elt F) (b.view.writes (Elt F) g
      [⟨Rect.unit (s := S4x32x8x128) ![0, 0, 0, 0] S4x32x8x128.size inb_S4x32x8x128_S4x32x8x128_0_0_0_0, x⟩]) = x := by
  rw [View.read_writes_eq_canon _ _ _ fun y => ⟨_, List.mem_singleton_self _, View.mem_set_unit_zero zeros inb_S4x32x8x128_S4x32x8x128_0_0_0_0 y⟩]
  exact View.canon_unit_zero zeros inb_S4x32x8x128_S4x32x8x128_0_0_0_0 x

/-! ## The run -/

variable (X : Dev nD → Vec F S4x32x8x128 .f32) (Y : Dev nD → Vec F S4x32x8x2 .f32)

/-- A wait, owing nothing, on an own cell for all of its one round: the cell's payload comes, and the cell closes. -/
theorem wait_own (κ : ℕ) (c : Dev nD) (k : Fin 5) {w : TpuEff nD τ sig (Elt F) Λ₀ .tc PUnit} {α : Type}
    (hw : ∀ K : PUnit → sProp 𝕄, wpE (defs₀ (F := F)) 𝒱₀ (c : Thread nD τ) none Set.univ w K
      = waitSpec (c : Thread nD τ) Set.univ (tsem k) (price k) K)
    {kk : PUnit → Prog (TpuEff nD τ sig (Elt F) Λ₀ .tc) α} {Q : α → sProp 𝕄} :
    iprop(cellInv ER (talkRd X Y) κ ((c : Thread nD τ), tsem k) ∗ cred (tallyAt ((c : Thread nD τ), tsem k) () (price k))
        ∗ (∃ W, owes (c : Thread nD τ) (0 : CellTallies nD τ sig Unit) W) ∗ atPos ER ((c : Thread nD τ), tsem k) 0 ∅ 0)
      ⊢ iprop((((∃ W, owes (c : Thread nD τ) (0 : CellTallies nD τ sig Unit) W) ∗ semVal ((c : Thread nD τ), tsem k) 0 ∗ pay X Y c k)
          -∗ wp frame (wpE (defs₀ (F := F)) 𝒱₀ c none) Set.univ (kk ⟨⟩) Q)
        -∗ wp frame (wpE (defs₀ (F := F)) 𝒱₀ c none) Set.univ (.op w kk) Q) := by
  iintro ⟨#HI, Hc, ⟨%W, HO⟩, Hat⟩ Hk
  iapply (Rounds.wp_wait_rest_token 𝒱₀ ER (talkRd X Y) (c : Thread nD τ) none (κ := κ) hw (Set.mem_univ _) () (O := 0) (W := W)
      (R := 0) (m := 0) (T := ∅) ((Nat.zero_add _).trans (expect_at X Y c k).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_at X Y c k)) $$ Hpay
  imod (close X Y κ ((c : Thread nD τ), tsem k)) $$ [Hat] with Hz
  · isplitr; · iexact HI
    iexact Hat
  iapply Hk
  isplitl [HO]; · iexists _; iexact HO
  isplitl [Hz] <;> iassumption

/-- What the body is run from, -/
def talkPre (K : GSem nD τ sig → ℕ) (c : Dev nD) (W : Waits sig Unit) : sProp 𝕄 :=
  iprop(opened X Y K c ∗ creds c ∗ levAts L lv ∗ (∃ f, dstOPts c f) ∗ (∃ f, dstTPts c f)
    ∗ srcOPts c (X c) ∗ srcTPts c (Y c) ∗ (∃ f, owns (c : Thread nD τ) (Memref.whole cc1_stg2_0) fullShare f)
    ∗ owes (c : Thread nD τ) (O₀ c) W)

/-- and what it leaves: all five counters at zero, the receive buffers at anything, the sources as they were, the result's
    buffer at the merge, nothing owed. -/
def talkPost (c : Dev nD) : sProp 𝕄 :=
  iprop((semVal (barCell c) 0 ∗ semVal (sendOCell c) 0 ∗ semVal (sendTCell c) 0 ∗ semVal (recvOCell c) 0 ∗ semVal (recvTCell c) 0)
    ∗ (∃ f, dstOPts c f) ∗ (∃ f, dstTPts c f) ∗ srcOPts c (X c) ∗ srcTPts c (Y c)
    ∗ owns (c : Thread nD τ) (Memref.whole cc1_stg2_0) fullShare (merge (X c) (Y c) (X (pr c)) (Y (pr c)))
    ∗ ∃ W, owes (c : Thread nD τ) (0 : CellTallies nD τ sig Unit) W)

set_option maxHeartbeats 1600000 in
theorem talkRun (K : GSem nD τ sig → ℕ) (c : Dev nD) (W : Waits sig Unit) (Kt : PUnit → sProp 𝕄) :
    iprop(talkPre X Y K c W ∗ (talkPost X Y c -∗ Kt ⟨⟩))
      ⊢ wp frame (wpE (defs₀ (F := F)) 𝒱₀ c none) Set.univ
          (cc1__comm_body srcO (Memref.isWhole_whole _) srcT (Memref.isWhole_whole _) (Memref.whole cc1_stg2_0) (Memref.isWhole_whole _)
            dstO (Memref.isWhole_whole _) dstT (Memref.isWhole_whole _) cc1_scratch2 cc1_scratch3) Kt := by
  simp only [cc1__comm_body_eq_skeleton]; unfold cc1__comm_body_skel
  simp only [k1_part1_eq_skeleton, k1_part2_eq_skeleton]; unfold k1_part1_skel k1_part2_skel
  simp only [semSignalWord, semWaitWord, Prog.lift, Prog.bind_op, Prog.bind_ret, Prog.pure_eq_ret, Prog.bind_assoc, wp_deviceId]
  simp only [dev2_eq, dev3_eq, show (⟨k1_dev1 c, k1_dev1_lt c⟩ : Dev nD) = pr c from rfl]
  unfold talkPre opened invs payToks creds
  iintro ⟨⟨⟨⟨#HIb, #HIso, #HIst, #HIro, #HIrt, #HIbP, #HIroP, #HIrtP⟩, HatB, ⟨⟨HatSO, #HrSO⟩, ⟨HatST, #HrST⟩, ⟨HatRO, #HrRO⟩, ⟨HatRT, #HrRT⟩⟩, #HrP, HtB, HtSO, HtST, HtRO, HtRT⟩,
    ⟨HcB, HcO, HcT⟩, #Hlev, ⟨%fo, Hdo⟩, ⟨%ft, Hdt⟩, Hso, Hst, ⟨%f2, Hout⟩, HO⟩, Hk⟩
  -- the signal to the other device, with the own receive buffers
  iapply (Rounds.wp_signal 𝒱₀ ER (talkRd X Y) (c : Thread nD τ) none (dst := (pr c : Thread nD τ)) (sem := barS) (r := 0) (d := ()) (κ := K (barCell (pr c)))
      (mem_duties X Y (pr c) 0) (amount_at X Y (pr c) 0 ()) () (Ocopies c) rfl) $$ [HO HtB Hdo Hdt]
  · isplitr; · iexact HIbP
    isplitl [HO]; · iexact HO
    isplitl [HtB]; · iexact HtB
    isplitl [Hdo Hdt]
    · rw [show (talkRd X Y).payload (barCell (pr c)) 0 () = pay X Y (pr c) 0 from payload_at X Y (pr c) 0 ()]
      unfold pay barPay; rw [pr_pr]
      isplitl [Hdo]; · iexists fo; iexact Hdo
      isplitl [Hdt]; · iexists ft; iexact Hdt
      isplitr; · iexact HrRO
      iexact HrRT
    iexact HrP
  iintro HO
  -- the wait on the own barrier: the other device's receive buffers come
  iapply (Rounds.wp_wait_rest_token 𝒱₀ ER (talkRd X Y) (c : Thread nD τ) none (κ := K (barCell c))
      (wpE_semWait_eq 𝒱₀ (c : Thread nD τ) none Set.univ) (Set.mem_univ _) () (O := Ocopies c) (W := W) (R := 0) (m := 0) (T := ∅)
      ((Nat.zero_add 1).trans (expect_at X Y c 0).symm)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hp := (Entails.of_eq (rest_at X Y c 0)) $$ Hpay
  unfold pay barPay
  icases Hp with ⟨⟨%fo', Hdo⟩, ⟨%ft', Hdt⟩, #HrROP, #HrRTP⟩
  imod (close X Y (K (barCell c)) (barCell c)) $$ [HatB] with HzB
  · isplitr; · iexact HIb
    iexact HatB
  -- the copy of the sums
  iapply (Rounds.wp_send_pointsTo 𝒱₀ ER (talkRd X Y) (c : Thread nD τ) none (c' := (pr c : Thread nD τ)) (src := srcO) (dst := dstO)
      (sS := .dma sendO) (sem := .dma recvO) (q := fullShare) (fs := X c) (fd := fo') (κ₁ := K (sendOCell c)) (κ₂ := K (recvOCell (pr c)))
      (r₁ := 0) (r₂ := 0) (d₁ := ()) (d₂ := ()) (mem_duties X Y c 1) (mem_duties X Y (pr c) 3) () () NO rfl
      (amount_at X Y c 1 ()) (amount_at X Y (pr c) 3 ()) (tallyAt (recvTCell (pr c)) () NT) rfl
      (by rw [show (talkRd X Y).payload (sendOCell c) 0 () = pay X Y c 1 from payload_at X Y c 1 ()]; exact BI.Entails.refl _)
      (by rw [show (talkRd X Y).payload (recvOCell (pr c)) 0 () = pay X Y (pr c) 3 from payload_at X Y (pr c) 3 ()]
          unfold pay dstOPts; rw [landO, pr_pr])) $$ [Hso Hdo HO HtSO HtRO]
  · isplitr; · iexact HIso
    isplitr; · iexact HIroP
    isplitl [Hso]; · iexact Hso
    isplitl [Hdo]; · iexact Hdo
    isplitl [HO]; · iexact HO
    isplitl [HtSO]; · iexact HtSO
    isplitr; · iexact HrSO
    isplitl [HtRO]; · iexact HtRO
    iexact HrROP
  iintro ⟨HcSO, HO⟩
  -- the copy of the statistics
  iapply (Rounds.wp_send_pointsTo 𝒱₀ ER (talkRd X Y) (c : Thread nD τ) none (c' := (pr c : Thread nD τ)) (src := srcT) (dst := dstT)
      (sS := .dma sendT) (sem := .dma recvT) (q := fullShare) (fs := Y c) (fd := ft') (κ₁ := K (sendTCell c)) (κ₂ := K (recvTCell (pr c)))
      (r₁ := 0) (r₂ := 0) (d₁ := ()) (d₂ := ()) (mem_duties X Y c 2) (mem_duties X Y (pr c) 4) () () NT rfl
      (amount_at X Y c 2 ()) (amount_at X Y (pr c) 4 ()) 0 (by rw [zero_add])
      (by rw [show (talkRd X Y).payload (sendTCell c) 0 () = pay X Y c 2 from payload_at X Y c 2 ()]; exact BI.Entails.refl _)
      (by rw [show (talkRd X Y).payload (recvTCell (pr c)) 0 () = pay X Y (pr c) 4 from payload_at X Y (pr c) 4 ()]
          unfold pay dstTPts; rw [landT, pr_pr])) $$ [Hst Hdt HO HtST HtRT]
  · isplitr; · iexact HIst
    isplitr; · iexact HIrtP
    isplitl [Hst]; · iexact Hst
    isplitl [Hdt]; · iexact Hdt
    isplitl [HO]; · iexact HO
    isplitl [HtST]; · iexact HtST
    isplitr; · iexact HrST
    isplitl [HtRT]; · iexact HtRT
    iexact HrRTP
  iintro ⟨HcST, HO⟩
  -- the four waits
  iapply (wait_own X Y (K (sendOCell c)) c 1 (wpE_waitDma2_eq (src := dstO) (dst := srcO) 𝒱₀ (c : Thread nD τ) none Set.univ)) $$ [HcSO HO HatSO]
  · isplitr; · iexact HIso
    isplitl [HcSO]; · iexact HcSO
    isplitl [HO]; · iexists _; iexact HO
    iexact HatSO
  iintro ⟨HO, HzSO, Hso⟩
  iapply (wait_own X Y (K (recvOCell c)) c 3 (wpE_waitDma2_eq (src := srcO) (dst := dstO) 𝒱₀ (c : Thread nD τ) none Set.univ)) $$ [HcO HO HatRO]
  · isplitr; · iexact HIro
    isplitl [HcO]; · iexact HcO
    isplitl [HO]; · iexact HO
    iexact HatRO
  iintro ⟨HO, HzRO, Hdo⟩
  iapply (wait_own X Y (K (sendTCell c)) c 2 (wpE_waitDma2_eq (src := dstT) (dst := srcT) 𝒱₀ (c : Thread nD τ) none Set.univ)) $$ [HcST HO HatST]
  · isplitr; · iexact HIst
    isplitl [HcST]; · iexact HcST
    isplitl [HO]; · iexact HO
    iexact HatST
  iintro ⟨HO, HzST, Hst⟩
  iapply (wait_own X Y (K (recvTCell c)) c 4 (wpE_waitDma2_eq (src := srcT) (dst := dstT) 𝒱₀ (c : Thread nD τ) none Set.univ)) $$ [HcT HO HatRT]
  · isplitr; · iexact HIrt
    isplitl [HcT]; · iexact HcT
    isplitl [HO]; · iexact HO
    iexact HatRT
  iintro ⟨HO, HzRT, Hdt⟩
  unfold pay owns
  icases Hout with ⟨%g2, %hg2, Hout⟩
  sl_exec
  sl_step
  iapply Hk
  unfold talkPost owns
  isplitl [HzB HzSO HzST HzRO HzRT]
  · isplitl [HzB]; · iexact HzB
    isplitl [HzSO]; · iexact HzSO
    isplitl [HzST]; · iexact HzST
    isplitl [HzRO] <;> iassumption
  isplitl [Hdo]; · iexists _; iexact Hdo
  isplitl [Hdt]; · iexists _; iexact Hdt
  isplitl [Hso]; · iexact Hso
  isplitl [Hst]; · iexact Hst
  isplitl [Hout]
  · iexists _; isplitr; swap; iexact Hout; ipureintro
    refine (read_writes_all _ _).trans ?_
    rw [readAt_all, readAt_all]
    rfl
  iexact HO

end Cert.KernelIdeal.Talk
-- ==== Proof.Flash.State.lean ====
/- What one grid point of the flash-decoding call leaves in its three scratch planes, as a function of the query, key
   and value blocks it loads and of the planes it found: the eight heads' rows one under the other. -/
module

public import proofs.«01_k».proof.Proof.Gen.KernelIdeal.Skeleton
public import Idealize.ShloMosaic.Lib.ValueIdxCore

@[expose] public section

noncomputable section

namespace Cert.KernelIdeal.Flash

open Idealize.ShloMosaic Idealize.ShloMosaic.TcCoe
open Idealize.ShloMosaic.ValueIdx Cert.KernelIdeal Cert.KernelIdeal.Gen

variable {F : FTy → Type} [FloatOps F]

/-- The row of a 256-row plane in head `h`'s band. -/
def bandRow (h : Fin 8) (r : Fin 32) : Fin 256 := ⟨32 * h.val + r.val, by omega⟩

theorem inQ (h : Fin 8) : ∀ a, (![0, 0, h.val, 0] : Fin 4 → ℕ) a + S1x32x1x128.size a ≤ S1x32x8x128.size a := by
  revert h; decide
theorem inK (h : Fin 8) : ∀ a, (![0, 0, h.val, 0] : Fin 4 → ℕ) a + S1x512x1x128.size a ≤ S1x512x8x128.size a := by
  revert h; decide
theorem inCol (h : Fin 8) : ∀ a, (![32 * h.val, 0] : Fin 2 → ℕ) a + S32x1.size a ≤ S256x128.size a := by
  revert h; decide
theorem inBand (h : Fin 8) : ∀ a, (![32 * h.val, 0] : Fin 2 → ℕ) a + S32x128.size a ≤ S256x128.size a := by
  revert h; decide

/-- Head `h` of a block of queries. -/
def qOf (h : Fin 8) (x : Vec F S1x32x8x128 .f32) : Vec F S1x32x1x128 .f32 :=
  fun j => x ((Rect.unit (s := S1x32x8x128) ![0, 0, h.val, 0] S1x32x1x128.size (inQ h)).toLoadRect.idx j)
/-- Head `h` of a block of keys or values. -/
def kOf (h : Fin 8) (x : Vec F S1x512x8x128 .f32) : Vec F S1x512x1x128 .f32 :=
  fun j => x ((Rect.unit (s := S1x512x8x128) ![0, 0, h.val, 0] S1x512x1x128.size (inK h)).toLoadRect.idx j)
/-- The first column of head `h`'s band of a plane. -/
def colOf (h : Fin 8) (x : Vec F S256x128 .f32) : Vec F S32x1 .f32 :=
  fun j => x ((Rect.unit (s := S256x128) ![32 * h.val, 0] S32x1.size (inCol h)).toLoadRect.idx j)
/-- Head `h`'s band of a plane. -/
def bandOf (h : Fin 8) (x : Vec F S256x128 .f32) : Vec F S32x128 .f32 :=
  fun j => x ((Rect.unit (s := S256x128) ![32 * h.val, 0] S32x128.size (inBand h)).toLoadRect.idx j)

/-- A plane put together from its eight bands. -/
def bands (f : Fin 8 → Vec F S32x128 .f32) : Vec F S256x128 .f32 := fun i =>
  f ⟨(i 0).val / 32, by have : (i 0).val < 256 := (i 0).isLt; omega⟩
    (ix2 ⟨(i 0).val % 32, Nat.mod_lt _ (by decide)⟩ (i 1))

/-- The three planes the flash-decoding call carries from point to point: the weighted values, the running maximum and
    the running sum (each of the two last repeated along its row). -/
structure Planes (F : FTy → Type) where
  acc : Vec F S256x128 .f32
  mx : Vec F S256x128 .f32
  sm : Vec F S256x128 .f32

/-- The planes as the first block of keys finds them. -/
def Planes.init : Planes F := ⟨k0_pay27, k0_pay25, k0_pay26⟩

/-- Head `h`'s band of the weighted values after a block. -/
def accBand (x0 : Vec F S1x32x8x128 .f32) (x1 x2 : Vec F S1x512x8x128 .f32) (s : Planes F) (h : Fin 8) : Vec F S32x128 .f32 :=
  k0_pay34 (k0_pay33 (qOf h x0) (kOf h x1) (kOf h x2) (colOf h s.mx) (bandOf h s.acc))
/-- Head `h`'s band of the running maximum after a block. -/
def mxBand (x0 : Vec F S1x32x8x128 .f32) (x1 : Vec F S1x512x8x128 .f32) (s : Planes F) (h : Fin 8) : Vec F S32x128 .f32 :=
  k0_pay35 (k0_pay29 (qOf h x0) (kOf h x1) (colOf h s.mx))
/-- Head `h`'s band of the running sum after a block. -/
def smBand (x0 : Vec F S1x32x8x128 .f32) (x1 : Vec F S1x512x8x128 .f32) (s : Planes F) (h : Fin 8) : Vec F S32x128 .f32 :=
  k0_pay36 (k0_pay32 (qOf h x0) (kOf h x1) (colOf h s.mx) (colOf h s.sm))

/-- The planes after one block of keys and values. -/
def Planes.step (x0 : Vec F S1x32x8x128 .f32) (x1 x2 : Vec F S1x512x8x128 .f32) (s : Planes F) : Planes F :=
  ⟨bands (accBand x0 x1 x2 s), bands (mxBand x0 x1 s), bands (smBand x0 x1 s)⟩

/-- Eight bands of values, one per head, as a block of results. -/
def tileO (f : Fin 8 → Vec F S32x128 .f32) : Vec F S1x32x8x128 .f32 := fun i =>
  k0_pay4 (f (i 2)) (ix4 (i 0) (i 1) 0 (i 3))
/-- Eight pairs of columns, one per head, as a block of statistics. -/
def tileS (f : Fin 8 → Fin 2 → Vec F S32x1 .f32) : Vec F S1x32x8x2 .f32 := fun i =>
  k0_pay23 (f (i 2) (i 3)) (ix4 (i 0) (i 1) 0 0)

/-- The weighted values as the call writes them out, head by head. -/
def outO (s : Planes F) : Vec F S1x32x8x128 .f32 := tileO fun h => bandOf h s.acc
/-- The running maximum and sum as the call writes them out: the two columns of the statistics. -/
def outS (s : Planes F) : Vec F S1x32x8x2 .f32 := tileS fun h k => if k = 0 then colOf h s.mx else colOf h s.sm

end Cert.KernelIdeal.Flash
-- ==== Proof.Flash.Run.lean ====
/- The body of the flash-decoding call, run once at any grid point: from its three blocks and the three planes to the
   planes after the block, and to the two written blocks where the point is the last of its batch. -/
module

public import proofs.«01_k».proof.Proof.Flash.State
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Pipeline.ValueKit.Geometry
public import Idealize.ShloMosaic.Lib.WholeRead
public import Idealize.ShloMosaic.Lib.Ring
public import Idealize.ShloMosaic.Lib.Tactic
public import Idealize.ShloMosaic.Lib.WordCmp

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx Cert.KernelIdeal Cert.KernelIdeal.Gen

variable {F : FTy → Type} [FloatOps F]

local notation "𝕄" => MT nD τ sig Unit (Elt F) ℕ (UR sig nD τ × UR sig nD τ) ℕ

/-- The first block of a batch of queries: the planes are cleared there. -/
abbrev First (i : grid0.Coords) : Prop :=
  (Scalar.cmpi .ne (Scalar.extui (Scalar.cmpi .eq (BitVec.ofNat 32 (i 1).val) 0#32)) 0#32) = 1#1
/-- The last block of a batch of queries: the results are written there. -/
abbrev Last (i : grid0.Coords) : Prop := k0_cond2 i = 1#1

theorem bands_emb (f : Fin 8 → Vec F S32x128 .f32) (h : Fin 8) (x : S32x128.Idx) :
    bands f ((Rect.unit (s := S256x128) ![32 * h.val, 0] S32x128.size (inBand h)).emb x) = f h x := by
  have h0 : (((Rect.unit (s := S256x128) ![32 * h.val, 0] S32x128.size (inBand h)).emb x) 0).val = 32 * h.val + (x 0).val :=
    ValueKit.rect_emb_unit_val (s := S256x128) ![32 * h.val, 0] S32x128.size (inBand h) x 0
  have h1 : (((Rect.unit (s := S256x128) ![32 * h.val, 0] S32x128.size (inBand h)).emb x) 1).val = 0 + (x 1).val :=
    ValueKit.rect_emb_unit_val (s := S256x128) ![32 * h.val, 0] S32x128.size (inBand h) x 1
  have hx : (x 0).val < 32 := (x 0).isLt
  unfold bands
  have e : (⟨(((Rect.unit (s := S256x128) ![32 * h.val, 0] S32x128.size (inBand h)).emb x) 0).val / 32, by rw [h0]; omega⟩ : Fin 8) = h :=
    Fin.ext (by show _ / 32 = _; rw [h0]; omega)
  rw [e]
  refine congrArg _ (funext fun a => ?_)
  match a with
  | ⟨0, _⟩ => exact Fin.ext (by show _ % 32 = (x 0).val; rw [h0]; omega)
  | ⟨1, _⟩ => exact Fin.ext (by show (((Rect.unit (s := S256x128) ![32 * h.val, 0] S32x128.size (inBand h)).emb x) 1).val = _; rw [h1]; exact Nat.zero_add _)

/-- The eight stores of a plane's bands, last first. -/
abbrev bandPieces (f : Fin 8 → Vec F S32x128 .f32) : List (View.Piece (Elt F) S256x128 .f32) :=
  [⟨Rect.unit (s := S256x128) ![224, 0] S32x128.size (inBand 7), f 7⟩, ⟨Rect.unit (s := S256x128) ![192, 0] S32x128.size (inBand 6), f 6⟩,
   ⟨Rect.unit (s := S256x128) ![160, 0] S32x128.size (inBand 5), f 5⟩, ⟨Rect.unit (s := S256x128) ![128, 0] S32x128.size (inBand 4), f 4⟩,
   ⟨Rect.unit (s := S256x128) ![96, 0] S32x128.size (inBand 3), f 3⟩, ⟨Rect.unit (s := S256x128) ![64, 0] S32x128.size (inBand 2), f 2⟩,
   ⟨Rect.unit (s := S256x128) ![32, 0] S32x128.size (inBand 1), f 1⟩, ⟨Rect.unit (s := S256x128) ![0, 0] S32x128.size (inBand 0), f 0⟩]

/-- A plane the eight bands have been stored into reads as those bands. -/
theorem read_bands (a : Memref sig .tc .vmem S256x128 .f32) (g : a.view.ty.Contents (Elt F)) (f : Fin 8 → Vec F S32x128 .f32) :
    a.view.read (Elt F) (a.view.writes (Elt F) g (bandPieces f)) = bands f := by
  have hcov : ∀ y, ∃ p ∈ bandPieces f, y ∈ p.1.set := fun y => View.cover_of_tiledL (bandPieces f) S32x128.size (by sl_kernel_rfl) y
  rw [View.read_writes_eq_canon _ _ _ hcov]
  funext y
  refine View.canon_apply_of_pieces (bands f) _ ?_ y (hcov y)
  intro p hp x
  fin_cases hp
  · exact (bands_emb f 7 x).symm
  · exact (bands_emb f 6 x).symm
  · exact (bands_emb f 5 x).symm
  · exact (bands_emb f 4 x).symm
  · exact (bands_emb f 3 x).symm
  · exact (bands_emb f 2 x).symm
  · exact (bands_emb f 1 x).symm
  · exact (bands_emb f 0 x).symm

theorem tileO_emb (f : Fin 8 → Vec F S32x128 .f32) (h : Fin 8) (x : S1x32x1x128.Idx) :
    tileO f ((Rect.unit (s := S1x32x8x128) ![0, 0, h.val, 0] S1x32x1x128.size (inQ h)).emb x) = k0_pay4 (f h) x := by
  have hv := fun a => ValueKit.rect_emb_unit_val (s := S1x32x8x128) ![0, 0, h.val, 0] S1x32x1x128.size (inQ h) x a
  have e : ((Rect.unit (s := S1x32x8x128) ![0, 0, h.val, 0] S1x32x1x128.size (inQ h)).emb x) 2 = h := by
    have hx : (x 2).val = 0 := Nat.lt_one_iff.mp (x 2).isLt
    exact Fin.ext ((hv 2).trans (by show h.val + (x 2).val = _; rw [hx]; rfl))
  unfold tileO
  rw [e]
  refine congrArg _ (funext fun a => ?_)
  match a with
  | ⟨0, _⟩ => exact Fin.ext ((hv 0).trans (Nat.zero_add _))
  | ⟨1, _⟩ => exact Fin.ext ((hv 1).trans (Nat.zero_add _))
  | ⟨2, _⟩ => exact Fin.ext (Nat.lt_one_iff.mp (x 2).isLt).symm
  | ⟨3, _⟩ => exact Fin.ext ((hv 3).trans (Nat.zero_add _))

theorem inS (h : Fin 8) (k : Fin 2) : ∀ a, (![0, 0, h.val, k.val] : Fin 4 → ℕ) a + S1x32x1x1.size a ≤ S1x32x8x2.size a := by
  revert h k; decide

theorem tileS_emb (f : Fin 8 → Fin 2 → Vec F S32x1 .f32) (h : Fin 8) (k : Fin 2) (x : S1x32x1x1.Idx) :
    tileS f ((Rect.unit (s := S1x32x8x2) ![0, 0, h.val, k.val] S1x32x1x1.size (inS h k)).emb x)
      = k0_pay23 (f h k) x := by
  have hv := fun a => ValueKit.rect_emb_unit_val (s := S1x32x8x2) ![0, 0, h.val, k.val] S1x32x1x1.size (inS h k) x a
  have e : ((Rect.unit (s := S1x32x8x2) ![0, 0, h.val, k.val] S1x32x1x1.size (inS h k)).emb x) 2 = h := by
    have hx : (x 2).val = 0 := Nat.lt_one_iff.mp (x 2).isLt
    exact Fin.ext ((hv 2).trans (by show h.val + (x 2).val = _; rw [hx]; rfl))
  have e3 : ((Rect.unit (s := S1x32x8x2) ![0, 0, h.val, k.val] S1x32x1x1.size (inS h k)).emb x) 3 = k := by
    have hx : (x 3).val = 0 := Nat.lt_one_iff.mp (x 3).isLt
    exact Fin.ext ((hv 3).trans (by show k.val + (x 3).val = _; rw [hx]; rfl))
  unfold tileS
  rw [e, e3]
  refine congrArg _ (funext fun a => ?_)
  match a with
  | ⟨0, _⟩ => exact Fin.ext ((hv 0).trans (Nat.zero_add _))
  | ⟨1, _⟩ => exact Fin.ext ((hv 1).trans (Nat.zero_add _))
  | ⟨2, _⟩ => exact Fin.ext (Nat.lt_one_iff.mp (x 2).isLt).symm
  | ⟨3, _⟩ => exact Fin.ext (Nat.lt_one_iff.mp (x 3).isLt).symm

/-- The eight stores of the weighted values, last first. -/
abbrev oPieces (f : Fin 8 → Vec F S32x128 .f32) : List (View.Piece (Elt F) S1x32x8x128 .f32) :=
  [⟨Rect.unit (s := S1x32x8x128) ![0, 0, 7, 0] S1x32x1x128.size (inQ 7), k0_pay4 (f 7)⟩,
   ⟨Rect.unit (s := S1x32x8x128) ![0, 0, 6, 0] S1x32x1x128.size (inQ 6), k0_pay4 (f 6)⟩,
   ⟨Rect.unit (s := S1x32x8x128) ![0, 0, 5, 0] S1x32x1x128.size (inQ 5), k0_pay4 (f 5)⟩,
   ⟨Rect.unit (s := S1x32x8x128) ![0, 0, 4, 0] S1x32x1x128.size (inQ 4), k0_pay4 (f 4)⟩,
   ⟨Rect.unit (s := S1x32x8x128) ![0, 0, 3, 0] S1x32x1x128.size (inQ 3), k0_pay4 (f 3)⟩,
   ⟨Rect.unit (s := S1x32x8x128) ![0, 0, 2, 0] S1x32x1x128.size (inQ 2), k0_pay4 (f 2)⟩,
   ⟨Rect.unit (s := S1x32x8x128) ![0, 0, 1, 0] S1x32x1x128.size (inQ 1), k0_pay4 (f 1)⟩,
   ⟨Rect.unit (s := S1x32x8x128) ![0, 0, 0, 0] S1x32x1x128.size (inQ 0), k0_pay4 (f 0)⟩]
/-- The sixteen stores of the statistics, last first. -/
abbrev sPieces (f : Fin 8 → Fin 2 → Vec F S32x1 .f32) : List (View.Piece (Elt F) S1x32x8x2 .f32) :=
  [⟨Rect.unit (s := S1x32x8x2) ![0, 0, 7, 1] S1x32x1x1.size (inS 7 1), k0_pay23 (f 7 1)⟩,
   ⟨Rect.unit (s := S1x32x8x2) ![0, 0, 7, 0] S1x32x1x1.size (inS 7 0), k0_pay23 (f 7 0)⟩,
   ⟨Rect.unit (s := S1x32x8x2) ![0, 0, 6, 1] S1x32x1x1.size (inS 6 1), k0_pay23 (f 6 1)⟩,
   ⟨Rect.unit (s := S1x32x8x2) ![0, 0, 6, 0] S1x32x1x1.size (inS 6 0), k0_pay23 (f 6 0)⟩,
   ⟨Rect.unit (s := S1x32x8x2) ![0, 0, 5, 1] S1x32x1x1.size (inS 5 1), k0_pay23 (f 5 1)⟩,
   ⟨Rect.unit (s := S1x32x8x2) ![0, 0, 5, 0] S1x32x1x1.size (inS 5 0), k0_pay23 (f 5 0)⟩,
   ⟨Rect.unit (s := S1x32x8x2) ![0, 0, 4, 1] S1x32x1x1.size (inS 4 1), k0_pay23 (f 4 1)⟩,
   ⟨Rect.unit (s := S1x32x8x2) ![0, 0, 4, 0] S1x32x1x1.size (inS 4 0), k0_pay23 (f 4 0)⟩,
   ⟨Rect.unit (s := S1x32x8x2) ![0, 0, 3, 1] S1x32x1x1.size (inS 3 1), k0_pay23 (f 3 1)⟩,
   ⟨Rect.unit (s := S1x32x8x2) ![0, 0, 3, 0] S1x32x1x1.size (inS 3 0), k0_pay23 (f 3 0)⟩,
   ⟨Rect.unit (s := S1x32x8x2) ![0, 0, 2, 1] S1x32x1x1.size (inS 2 1), k0_pay23 (f 2 1)⟩,
   ⟨Rect.unit (s := S1x32x8x2) ![0, 0, 2, 0] S1x32x1x1.size (inS 2 0), k0_pay23 (f 2 0)⟩,
   ⟨Rect.unit (s := S1x32x8x2) ![0, 0, 1, 1] S1x32x1x1.size (inS 1 1), k0_pay23 (f 1 1)⟩,
   ⟨Rect.unit (s := S1x32x8x2) ![0, 0, 1, 0] S1x32x1x1.size (inS 1 0), k0_pay23 (f 1 0)⟩,
   ⟨Rect.unit (s := S1x32x8x2) ![0, 0, 0, 1] S1x32x1x1.size (inS 0 1), k0_pay23 (f 0 1)⟩,
   ⟨Rect.unit (s := S1x32x8x2) ![0, 0, 0, 0] S1x32x1x1.size (inS 0 0), k0_pay23 (f 0 0)⟩]

/-- A block of results the eight heads have been stored into reads as those heads. -/
theorem read_outO (a : Memref sig .tc .vmem S1x32x8x128 .f32) (g : a.view.ty.Contents (Elt F)) (f : Fin 8 → Vec F S32x128 .f32) :
    a.view.read (Elt F) (a.view.writes (Elt F) g (oPieces f)) = tileO f := by
  have hcov : ∀ y, ∃ p ∈ oPieces f, y ∈ p.1.set := fun y => View.cover_of_tiledL (oPieces f) S1x32x1x128.size (by sl_kernel_rfl) y
  rw [View.read_writes_eq_canon _ _ _ hcov]
  funext y
  refine View.canon_apply_of_pieces (tileO f) _ ?_ y (hcov y)
  intro p hp x
  fin_cases hp
  · exact (tileO_emb f 7 x).symm
  · exact (tileO_emb f 6 x).symm
  · exact (tileO_emb f 5 x).symm
  · exact (tileO_emb f 4 x).symm
  · exact (tileO_emb f 3 x).symm
  · exact (tileO_emb f 2 x).symm
  · exact (tileO_emb f 1 x).symm
  · exact (tileO_emb f 0 x).symm

/-- A block of statistics the sixteen columns have been stored into reads as those columns. -/
theorem read_outS (a : Memref sig .tc .vmem S1x32x8x2 .f32) (g : a.view.ty.Contents (Elt F)) (f : Fin 8 → Fin 2 → Vec F S32x1 .f32) :
    a.view.read (Elt F) (a.view.writes (Elt F) g (sPieces f)) = tileS f := by
  have hcov : ∀ y, ∃ p ∈ sPieces f, y ∈ p.1.set := fun y => View.cover_of_tiledL (sPieces f) S1x32x1x1.size (by sl_kernel_rfl) y
  rw [View.read_writes_eq_canon _ _ _ hcov]
  funext y
  refine View.canon_apply_of_pieces (tileS f) _ ?_ y (hcov y)
  intro p hp x
  fin_cases hp
  · exact (tileS_emb f 7 1 x).symm
  · exact (tileS_emb f 7 0 x).symm
  · exact (tileS_emb f 6 1 x).symm
  · exact (tileS_emb f 6 0 x).symm
  · exact (tileS_emb f 5 1 x).symm
  · exact (tileS_emb f 5 0 x).symm
  · exact (tileS_emb f 4 1 x).symm
  · exact (tileS_emb f 4 0 x).symm
  · exact (tileS_emb f 3 1 x).symm
  · exact (tileS_emb f 3 0 x).symm
  · exact (tileS_emb f 2 1 x).symm
  · exact (tileS_emb f 2 0 x).symm
  · exact (tileS_emb f 1 1 x).symm
  · exact (tileS_emb f 1 0 x).symm
  · exact (tileS_emb f 0 1 x).symm
  · exact (tileS_emb f 0 0 x).symm

/-- A load of a memref held whole, as a function of the load's index. -/
theorem readAt_whole {s : Shape} {e : EltTy} {a : Memref sig .tc .vmem s e} (h : a.IsWhole) (X : Vec F s e) (B : LoadRect s) :
    View.readAt (Elt F) a.view B (h.unread X) = fun x => X (B.idx x) := funext fun x => h.readAt_unread X B x

/-- The planes a point starts from: cleared at the first block of a batch. -/
def Planes.start (i : grid0.Coords) (s : Planes F) : Planes F := if First i then Planes.init else s

/-- A plane stored into as a whole reads as what was stored. -/
theorem read_whole_store (a : Memref sig .tc .vmem S256x128 .f32) (g : a.view.ty.Contents (Elt F)) (X : Vec F S256x128 .f32)
    (inb : ∀ k, (![0, 0] : Fin 2 → ℕ) k + S256x128.size k ≤ S256x128.size k) :
    a.view.read (Elt F) (a.view.writes (Elt F) g [⟨Rect.unit (s := S256x128) ![0, 0] S256x128.size inb, X⟩]) = X := by
  have h0 : (![0, 0] : Fin 2 → ℕ) = fun _ => 0 := by decide
  rw [View.read_writes_eq_canon _ _ _ fun y => ⟨_, List.mem_singleton_self _, View.mem_set_unit_zero h0 inb y⟩]
  exact View.canon_unit_zero h0 inb X

/-- The clearing of the planes. -/
def clear (i : grid0.Coords) (arg7 arg8 arg9 : Memref sig .tc .vmem S256x128 .f32) :
    Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k0_h1 : v2 = 1#1 then do
    let v335 : Vec F S256x128 .f32 ← Prog.lift (.load arg8 (Rect.unit (s := S256x128) ![0, 0] S256x128.size inb_S256x128_S256x128_0_0).toLoadRect (View.loadsAt_vmem h_S256x128))
    Prog.lift (.store arg8 (Rect.unit (s := S256x128) ![0, 0] S256x128.size inb_S256x128_S256x128_0_0) (k0_pay25 (F := F)) Finset.univ (View.stores_vmem_bits_univ h_S256x128 rfl) (.inl rfl))
    let v339 : Vec F S256x128 .f32 ← Prog.lift (.load arg9 (Rect.unit (s := S256x128) ![0, 0] S256x128.size inb_S256x128_S256x128_0_0).toLoadRect (View.loadsAt_vmem h_S256x128))
    Prog.lift (.store arg9 (Rect.unit (s := S256x128) ![0, 0] S256x128.size inb_S256x128_S256x128_0_0) (k0_pay26 (F := F)) Finset.univ (View.stores_vmem_bits_univ h_S256x128 rfl) (.inl rfl))
    let v343 : Vec F S256x128 .f32 ← Prog.lift (.load arg7 (Rect.unit (s := S256x128) ![0, 0] S256x128.size inb_S256x128_S256x128_0_0).toLoadRect (View.loadsAt_vmem h_S256x128))
    Prog.lift (.store arg7 (Rect.unit (s := S256x128) ![0, 0] S256x128.size inb_S256x128_S256x128_0_0) (k0_pay27 (F := F)) Finset.univ (View.stores_vmem_bits_univ h_S256x128 rfl) (.inl rfl))
    pure ⟨⟩
  else do
    pure ⟨⟩

theorem clear_run (c : Dev nD) (i : grid0.Coords) (arg7 arg8 arg9 : Memref sig .tc .vmem S256x128 .f32)
    (harg7 : arg7.IsWhole) (harg8 : arg8.IsWhole) (harg9 : arg9.IsWhole) (s : Planes F) (E : Set ℕ) (K : PUnit → sProp 𝕄) :
    iprop(owns (c : Thread nD τ) arg7 fullShare s.acc ∗ owns (c : Thread nD τ) arg8 fullShare s.mx ∗ owns (c : Thread nD τ) arg9 fullShare s.sm
      ∗ (iprop(owns (c : Thread nD τ) arg7 fullShare (s.start i).acc ∗ owns (c : Thread nD τ) arg8 fullShare (s.start i).mx ∗ owns (c : Thread nD τ) arg9 fullShare (s.start i).sm) -∗ K ⟨⟩))
      ⊢ wp frame (wpE (defs₀ (F := F)) Variants.none c none) E (clear i arg7 arg8 arg9) K := by
  unfold clear owns
  iintro ⟨⟨%fs0, %hfs0, HS0⟩, ⟨%fs1, %hfs1, HS1⟩, ⟨%fs2, %hfs2, HS2⟩, Hk⟩
  by_cases h1 : First i
  · rw [Planes.start, if_pos h1]
    sl_exec (disch := first | sl_exact h1)
    sl_step
    iapply Hk
    isplitl [HS0]
    · iexists _; isplitr; swap; iexact HS0; ipureintro
      exact read_whole_store _ _ _ _
    isplitl [HS1]
    · iexists _; isplitr; swap; iexact HS1; ipureintro
      exact read_whole_store _ _ _ _
    · iexists _; isplitr; swap; iexact HS2; ipureintro
      exact read_whole_store _ _ _ _
  · rw [Planes.start, if_neg h1]
    sl_exec (disch := first | sl_exact h1)
    sl_step
    iapply Hk
    isplitl [HS0]
    · iexists _; isplitr; swap; iexact HS0; ipureintro; exact hfs0
    isplitl [HS1]
    · iexists _; isplitr; swap; iexact HS1; ipureintro; exact hfs1
    · iexists _; isplitr; swap; iexact HS2; ipureintro; exact hfs2

/-- The first head's loads and what they give. -/
def headLoads (i : grid0.Coords) (arg2 : Memref sig .tc .vmem S1x32x8x128 .f32) (harg2 : arg2.IsWhole) (arg3 : Memref sig .tc .vmem S1x512x8x128 .f32) (harg3 : arg3.IsWhole) (arg4 : Memref sig .tc .vmem S1x512x8x128 .f32) (harg4 : arg4.IsWhole) (arg5 : Memref sig .tc .vmem S1x32x8x128 .f32) (harg5 : arg5.IsWhole) (arg6 : Memref sig .tc .vmem S1x32x8x2 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) :
    Prog (TpuEff nD τ sig (Elt F) Λ₀ .tc) (Σ' (arg1 : BitVec 32) (v15 : FVec F S32x1 .f32) (v25 : FVec F S32x1 .f32), FVec F S32x128 .f32) := do
  let v3 : Vec F S1x32x1x128 .f32 ← Prog.lift (.load arg2 (Rect.unit (s := S1x32x8x128) ![0, 0, 0, 0] S1x32x1x128.size inb_S1x32x8x128_S1x32x1x128_0_0_0_0).toLoadRect (View.loadsAt_vmem h_S1x32x1x128))
  let v5 : Vec F S1x512x1x128 .f32 ← Prog.lift (.load arg3 (Rect.unit (s := S1x512x8x128) ![0, 0, 0, 0] S1x512x1x128.size inb_S1x512x8x128_S1x512x1x128_0_0_0_0).toLoadRect (View.loadsAt_vmem h_S1x512x1x128))
  let v7 : Vec F S1x512x1x128 .f32 ← Prog.lift (.load arg4 (Rect.unit (s := S1x512x8x128) ![0, 0, 0, 0] S1x512x1x128.size inb_S1x512x8x128_S1x512x1x128_0_0_0_0).toLoadRect (View.loadsAt_vmem h_S1x512x1x128))
  let v12 : Vec F S32x1 .f32 ← Prog.lift (.load arg8 (Rect.unit (s := S256x128) ![0, 0] S32x1.size inb_S256x128_S32x1_0_0).toLoadRect (View.loadsAt_vmem h_S32x1))
  let v21 : Vec F S32x1 .f32 ← Prog.lift (.load arg9 (Rect.unit (s := S256x128) ![0, 0] S32x1.size inb_S256x128_S32x1_0_0).toLoadRect (View.loadsAt_vmem h_S32x1))
  let v27 : Vec F S32x128 .f32 ← Prog.lift (.load arg7 (Rect.unit (s := S256x128) ![0, 0] S32x128.size inb_S256x128_S32x128_0_0).toLoadRect (View.loadsAt_vmem h_S32x128))
  pure ⟨BitVec.ofNat 32 (i 1).val, k0_pay29 v3 v5 v12, k0_pay32 v3 v5 v12 v21, k0_pay33 v3 v5 v7 v12 v27⟩

theorem part5_eq (i : grid0.Coords) (arg2 : Memref sig .tc .vmem S1x32x8x128 .f32) (harg2 : arg2.IsWhole) (arg3 : Memref sig .tc .vmem S1x512x8x128 .f32) (harg3 : arg3.IsWhole) (arg4 : Memref sig .tc .vmem S1x512x8x128 .f32) (harg4 : arg4.IsWhole) (arg5 : Memref sig .tc .vmem S1x32x8x128 .f32) (harg5 : arg5.IsWhole) (arg6 : Memref sig .tc .vmem S1x32x8x2 .f32) (harg6 : arg6.IsWhole) (arg7 : Memref sig .tc .vmem S256x128 .f32) (harg7 : arg7.IsWhole) (arg8 : Memref sig .tc .vmem S256x128 .f32) (harg8 : arg8.IsWhole) (arg9 : Memref sig .tc .vmem S256x128 .f32) (harg9 : arg9.IsWhole) :
    k0_part5_skel (F := F) i arg2 harg2 arg3 harg3 arg4 harg4 arg5 harg5 arg6 harg6 arg7 harg7 arg8 harg8 arg9 harg9 = clear i arg7 arg8 arg9 >>= fun _ => headLoads i arg2 harg2 arg3 harg3 arg4 harg4 arg5 harg5 arg6 harg6 arg7 harg7 arg8 harg8 arg9 harg9 := by
  unfold k0_part5_skel clear headLoads
  by_cases h1 : First i
  · simp only [dif_pos h1, bind_assoc, pure_bind]
  · simp only [dif_neg h1, pure_bind]

set_option maxHeartbeats 1200000 in
/-- The body of the call at a point: it clears the planes at the first block of a batch, takes the block into them, and
    at the last block of the batch writes the two results. -/
theorem body_run (c : Dev nD) (i : grid0.Coords) (arg2 : Memref sig .tc .vmem S1x32x8x128 .f32) (harg2 : arg2.IsWhole)
    (arg3 : Memref sig .tc .vmem S1x512x8x128 .f32) (harg3 : arg3.IsWhole) (arg4 : Memref sig .tc .vmem S1x512x8x128 .f32) (harg4 : arg4.IsWhole)
    (arg5 : Memref sig .tc .vmem S1x32x8x128 .f32) (harg5 : arg5.IsWhole) (arg6 : Memref sig .tc .vmem S1x32x8x2 .f32) (harg6 : arg6.IsWhole)
    (arg7 arg8 arg9 : Memref sig .tc .vmem S256x128 .f32) (harg7 : arg7.IsWhole) (harg8 : arg8.IsWhole) (harg9 : arg9.IsWhole)
    (x0 : Vec F S1x32x8x128 .f32) (x1 x2 : Vec F S1x512x8x128 .f32) (y3 : Vec F S1x32x8x128 .f32) (y4 : Vec F S1x32x8x2 .f32) (s₀ : Planes F)
    (E : Set ℕ) (K : PUnit → sProp 𝕄) :
    iprop(owns (c : Thread nD τ) arg2 fullShare x0 ∗ owns (c : Thread nD τ) arg3 fullShare x1 ∗ owns (c : Thread nD τ) arg4 fullShare x2
      ∗ owns (c : Thread nD τ) arg5 fullShare y3 ∗ owns (c : Thread nD τ) arg6 fullShare y4
      ∗ owns (c : Thread nD τ) arg7 fullShare s₀.acc ∗ owns (c : Thread nD τ) arg8 fullShare s₀.mx ∗ owns (c : Thread nD τ) arg9 fullShare s₀.sm
      ∗ (iprop(owns (c : Thread nD τ) arg2 fullShare x0 ∗ owns (c : Thread nD τ) arg3 fullShare x1 ∗ owns (c : Thread nD τ) arg4 fullShare x2
      ∗ owns (c : Thread nD τ) arg5 fullShare (if Last i then outO ((s₀.start i).step x0 x1 x2) else y3)
      ∗ owns (c : Thread nD τ) arg6 fullShare (if Last i then outS ((s₀.start i).step x0 x1 x2) else y4)
      ∗ owns (c : Thread nD τ) arg7 fullShare ((s₀.start i).step x0 x1 x2).acc
      ∗ owns (c : Thread nD τ) arg8 fullShare ((s₀.start i).step x0 x1 x2).mx
      ∗ owns (c : Thread nD τ) arg9 fullShare ((s₀.start i).step x0 x1 x2).sm) -∗ K ⟨⟩))
      ⊢ wp frame (wpE (defs₀ (F := F)) Variants.none c none) E
          (cc0__flash_body i arg2 harg2 arg3 harg3 arg4 harg4 arg5 harg5 arg6 harg6 arg7 harg7 arg8 harg8 arg9 harg9) K := by
  simp only [cc0__flash_body_eq_skeleton]; unfold cc0__flash_body_skel
  simp only [k0_part14_eq_skeleton]; unfold k0_part14_skel
  simp only [k0_part5_eq_skeleton]; simp only [part5_eq, bind_assoc]
  rw [wp_bind]
  iintro ⟨H0, H1, H2, H3, H4, HS0, HS1, HS2, Hk⟩
  iapply (clear_run c i arg7 arg8 arg9 harg7 harg8 harg9 s₀ E _)
  isplitl [HS0]; · iexact HS0
  isplitl [HS1]; · iexact HS1
  isplitl [HS2]; · iexact HS2
  generalize s₀.start i = s
  unfold owns
  iintro ⟨⟨%fs0, %hfs0, HS0⟩, ⟨%fs1, %hfs1, HS1⟩, ⟨%fs2, %hfs2, HS2⟩⟩
  icases H0 with ⟨%f0, %hf0, H0⟩
  icases H1 with ⟨%f1, %hf1, H1⟩
  icases H2 with ⟨%f2, %hf2, H2⟩
  simp only [k0_part6_eq_skeleton, k0_part7_eq_skeleton, k0_part8_eq_skeleton, k0_part9_eq_skeleton, k0_part10_eq_skeleton, k0_part11_eq_skeleton, k0_part12_eq_skeleton, k0_part13_eq_skeleton]
  obtain rfl := harg2.eq_unread hf0; obtain rfl := harg3.eq_unread hf1; obtain rfl := harg4.eq_unread hf2
  obtain rfl := harg7.eq_unread hfs0; obtain rfl := harg8.eq_unread hfs1; obtain rfl := harg9.eq_unread hfs2
  sl_exec
  rw [harg7.eq_unread (f := arg7.view.writes (Elt F) (harg7.unread s.acc) _) (X := (s.step x0 x1 x2).acc)]
  rw [harg8.eq_unread (f := arg8.view.writes (Elt F) (harg8.unread s.mx) _) (X := (s.step x0 x1 x2).mx)]
  rw [harg9.eq_unread (f := arg9.view.writes (Elt F) (harg9.unread s.sm) _) (X := (s.step x0 x1 x2).sm)]
  rotate_left
  · refine (read_bands arg9 _ fun h => k0_pay36 (k0_pay32
      (View.readAt (Elt F) arg2.view (Rect.unit (s := S1x32x8x128) ![0, 0, h.val, 0] S1x32x1x128.size (inQ h)).toLoadRect (harg2.unread x0))
      (View.readAt (Elt F) arg3.view (Rect.unit (s := S1x512x8x128) ![0, 0, h.val, 0] S1x512x1x128.size (inK h)).toLoadRect (harg3.unread x1))
      (View.readAt (Elt F) arg8.view (Rect.unit (s := S256x128) ![32 * h.val, 0] S32x1.size (inCol h)).toLoadRect (harg8.unread s.mx))
      (View.readAt (Elt F) arg9.view (Rect.unit (s := S256x128) ![32 * h.val, 0] S32x1.size (inCol h)).toLoadRect (harg9.unread s.sm)))).trans ?_
    simp only [readAt_whole]; rfl
  · refine (read_bands arg8 _ fun h => k0_pay35 (k0_pay29
      (View.readAt (Elt F) arg2.view (Rect.unit (s := S1x32x8x128) ![0, 0, h.val, 0] S1x32x1x128.size (inQ h)).toLoadRect (harg2.unread x0))
      (View.readAt (Elt F) arg3.view (Rect.unit (s := S1x512x8x128) ![0, 0, h.val, 0] S1x512x1x128.size (inK h)).toLoadRect (harg3.unread x1))
      (View.readAt (Elt F) arg8.view (Rect.unit (s := S256x128) ![32 * h.val, 0] S32x1.size (inCol h)).toLoadRect (harg8.unread s.mx)))).trans ?_
    simp only [readAt_whole]; rfl
  · refine (read_bands arg7 _ fun h => k0_pay34 (k0_pay33
      (View.readAt (Elt F) arg2.view (Rect.unit (s := S1x32x8x128) ![0, 0, h.val, 0] S1x32x1x128.size (inQ h)).toLoadRect (harg2.unread x0))
      (View.readAt (Elt F) arg3.view (Rect.unit (s := S1x512x8x128) ![0, 0, h.val, 0] S1x512x1x128.size (inK h)).toLoadRect (harg3.unread x1))
      (View.readAt (Elt F) arg4.view (Rect.unit (s := S1x512x8x128) ![0, 0, h.val, 0] S1x512x1x128.size (inK h)).toLoadRect (harg4.unread x2))
      (View.readAt (Elt F) arg8.view (Rect.unit (s := S256x128) ![32 * h.val, 0] S32x1.size (inCol h)).toLoadRect (harg8.unread s.mx))
      (View.readAt (Elt F) arg7.view (Rect.unit (s := S256x128) ![32 * h.val, 0] S32x128.size (inBand h)).toLoadRect (harg7.unread s.acc)))).trans ?_
    simp only [readAt_whole]; rfl
  by_cases h2 : Last i
  · rw [if_pos h2, if_pos h2]
    simp only [k0_part1_eq_skeleton, k0_part2_eq_skeleton, k0_part3_eq_skeleton, k0_part4_eq_skeleton]
    icases H3 with ⟨%f3, %hf3, H3⟩
    icases H4 with ⟨%f4, %hf4, H4⟩
    sl_exec (disch := first | sl_exact h2)
    sl_step
    iapply Hk
    isplitl [H0]; · iexists _; isplitr; swap; iexact H0; ipureintro; exact harg2.read_unread _
    isplitl [H1]; · iexists _; isplitr; swap; iexact H1; ipureintro; exact harg3.read_unread _
    isplitl [H2]; · iexists _; isplitr; swap; iexact H2; ipureintro; exact harg4.read_unread _
    isplitl [H3]
    · iexists _; isplitr; swap; iexact H3; ipureintro
      refine (read_outO arg5 f3 fun h => View.readAt (Elt F) arg7.view
        (Rect.unit (s := S256x128) ![32 * h.val, 0] S32x128.size (inBand h)).toLoadRect (harg7.unread (s.step x0 x1 x2).acc)).trans ?_
      simp only [readAt_whole]; rfl
    isplitl [H4]
    · iexists _; isplitr; swap; iexact H4; ipureintro
      refine (read_outS arg6 f4 fun h k => if k = 0
        then View.readAt (Elt F) arg8.view (Rect.unit (s := S256x128) ![32 * h.val, 0] S32x1.size (inCol h)).toLoadRect (harg8.unread (s.step x0 x1 x2).mx)
        else View.readAt (Elt F) arg9.view (Rect.unit (s := S256x128) ![32 * h.val, 0] S32x1.size (inCol h)).toLoadRect (harg9.unread (s.step x0 x1 x2).sm)).trans ?_
      simp only [readAt_whole]; rfl
    isplitl [HS0]; · iexists _; isplitr; swap; iexact HS0; ipureintro; exact harg7.read_unread _
    isplitl [HS1]; · iexists _; isplitr; swap; iexact HS1; ipureintro; exact harg8.read_unread _
    · iexists _; isplitr; swap; iexact HS2; ipureintro; exact harg9.read_unread _
  · rw [if_neg h2, if_neg h2]
    sl_exec (disch := first | sl_exact h2)
    sl_step
    iapply Hk
    isplitl [H0]; · iexists _; isplitr; swap; iexact H0; ipureintro; exact harg2.read_unread _
    isplitl [H1]; · iexists _; isplitr; swap; iexact H1; ipureintro; exact harg3.read_unread _
    isplitl [H2]; · iexists _; isplitr; swap; iexact H2; ipureintro; exact harg4.read_unread _
    isplitl [H3]; · iexact H3
    isplitl [H4]; · iexact H4
    isplitl [HS0]; · iexists _; isplitr; swap; iexact HS0; ipureintro; exact harg7.read_unread _
    isplitl [HS1]; · iexists _; isplitr; swap; iexact HS1; ipureintro; exact harg8.read_unread _
    · iexists _; isplitr; swap; iexact HS2; ipureintro; exact harg9.read_unread _

end Cert.KernelIdeal.Flash
-- ==== Proof.Flash.Dat.lean ====
/- The flash-decoding call over its grid of four batches of queries by eight blocks of keys: what its planes hold after
   each point, what its two results hold at the end, and that its body meets this at every point. -/
module

public import proofs.«01_k».proof.Proof.Flash.Run
public import proofs.«01_k».proof.Proof.Gen.KernelIdeal.Regions

@[expose] public section

set_option maxRecDepth 16384

noncomputable section

namespace Cert.KernelIdeal.Flash

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal Cert.KernelIdeal.Gen

variable {F : FTy → Type} [FloatOps F]

local notation "𝕄" => MT nD τ sig Unit (Elt F) ℕ (UR sig nD τ × UR sig nD τ) ℕ

variable (m : (ℓ : Loc nD τ sig) → Buf (Elt F) ℓ)

theorem first_iff (t : Fin cfg0.N) : First (grid0.coords t) ↔ t.val % 8 = 0 := by
  have ht : t.val < 32 := Nat.lt_of_lt_of_eq t.isLt N_0
  have e1 : (grid0.coords t 1).val = t.val / 1 % 8 := Pipeline.Grid.coords_val t 1 (by decide) rfl
  simp only [First, e1]
  word_cmp

theorem last_iff (t : Fin cfg0.N) : Last (grid0.coords t) ↔ t.val % 8 = 7 := by
  have ht : t.val < 32 := Nat.lt_of_lt_of_eq t.isLt N_0
  have e1 : (grid0.coords t 1).val = t.val / 1 % 8 := Pipeline.Grid.coords_val t 1 (by decide) rfl
  simp only [Last, k0_cond2, e1]
  word_cmp

/-- Window `w`'s block at point `t`, of its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V0 m c (Pipeline.arrRef spec0 w))

/-- The query, key and value blocks of a point. -/
abbrev qBlk (c : Dev nD) (t : Fin cfg0.N) : Vec F S1x32x8x128 .f32 := iblk m c 0 t
abbrev kBlk (c : Dev nD) (t : Fin cfg0.N) : Vec F S1x512x8x128 .f32 := iblk m c 1 t
abbrev vBlk (c : Dev nD) (t : Fin cfg0.N) : Vec F S1x512x8x128 .f32 := iblk m c 2 t

/-- The point of number `n`. -/
def ptOf (n : ℕ) : Fin cfg0.N := ⟨n % 32, by have : cfg0.N = 32 := N_0; rw [this]; exact Nat.mod_lt _ (by decide)⟩
theorem ptOf_val (t : Fin cfg0.N) : ptOf t.val = t :=
  Fin.ext (Nat.mod_eq_of_lt (Nat.lt_of_lt_of_eq t.isLt N_0))

/-- The planes after point `t`, from the planes before it. -/
def planesNext (c : Dev nD) (t : Fin cfg0.N) (s : Planes F) : Planes F :=
  (s.start (grid0.coords t)).step (qBlk m c t) (kBlk m c t) (vBlk m c t)

/-- The planes after the point of number `n`. -/
def planesAt (c : Dev nD) : ℕ → Planes F
  | 0 => planesNext m c (ptOf 0) Planes.init
  | n + 1 => planesNext m c (ptOf (n + 1)) (planesAt c n)

/-- What holds between points: the planes are those the point before left (before the first point they are at anything),
    the buffers of the other call at anything, the generator's register at some state. -/
def between (c : Dev nD) (n : ℕ) : sProp 𝕄 :=
  iprop(∃ s : Planes F, ⌜∀ k, n = k + 1 → s = planesAt m c k⌝
    ∗ owns (c : Thread nD τ) (Memref.whole cc0_scratch0) fullShare s.acc ∗ owns (c : Thread nD τ) (Memref.whole cc0_scratch1) fullShare s.mx
    ∗ owns (c : Thread nD τ) (Memref.whole cc0_scratch2) fullShare s.sm
    ∗ ((∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f))
    ∗ ∃ r, prngReg c r)

/-- The call's proof data: each input's buffer at its block, each result's at the planes' results, the invariant
    `between`; the core owes `D c` throughout. -/
def dat0 (D : Dev nD → CellTallies nD τ sig Unit) (c : Dev nD) : Dat τ (Elt F) Unit ℕ (UR sig nD τ × UR sig nD τ) ℕ cfg0 c where
  A w := V0 m c (Pipeline.arrRef spec0 w)
  after w t := match w with
    | ⟨0, _⟩ => iblk m c 0 t
    | ⟨1, _⟩ => iblk m c 1 t
    | ⟨2, _⟩ => iblk m c 2 t
    | ⟨3, _⟩ => outO (planesAt m c t.val)
    | ⟨4, _⟩ => outS (planesAt m c t.val)
  Φ t := between m c t.val
  q _ := fullShare
  owed _ := D c

section
variable (D : Dev nD → CellTallies nD τ sig Unit)

theorem A_eq (c : Dev nD) (w : Fin cfg0.W) : (dat0 m D c).A w = V0 m c (Pipeline.arrRef spec0 w) := by dsimp only [dat0]
theorem after0 (c : Dev nD) (t : Fin cfg0.N) : (dat0 m D c).after 0 t = iblk m c 0 t := by dsimp only [dat0]
theorem after1 (c : Dev nD) (t : Fin cfg0.N) : (dat0 m D c).after 1 t = iblk m c 1 t := by dsimp only [dat0]
theorem after2 (c : Dev nD) (t : Fin cfg0.N) : (dat0 m D c).after 2 t = iblk m c 2 t := by dsimp only [dat0]
theorem after3 (c : Dev nD) (t : Fin cfg0.N) : (dat0 m D c).after 3 t = outO (planesAt m c t.val) := by dsimp only [dat0]
theorem after4 (c : Dev nD) (t : Fin cfg0.N) : (dat0 m D c).after 4 t = outS (planesAt m c t.val) := by dsimp only [dat0]

/-- An input's buffer holds its block at every point. -/
theorem before0 (c : Dev nD) (t : Fin cfg0.N) (d) : (dat0 m D c).before 0 t d = iblk m c 0 t :=
  ((dat0 m D c).before_in_eq_fetched 0 rfl (fun _ => rfl) (fun _ _ _ => rfl)
    (fun t => by rw [after0]; unfold Dat.blockOf iblk; rw [A_eq]; try rfl) t d).trans (by unfold Dat.fetched Dat.blockOf iblk; rw [A_eq]; try rfl)
theorem before1 (c : Dev nD) (t : Fin cfg0.N) (d) : (dat0 m D c).before 1 t d = iblk m c 1 t :=
  ((dat0 m D c).before_in_eq_fetched 1 rfl (fun _ => rfl) (fun _ _ _ => rfl)
    (fun t => by rw [after1]; unfold Dat.blockOf iblk; rw [A_eq]; try rfl) t d).trans (by unfold Dat.fetched Dat.blockOf iblk; rw [A_eq]; try rfl)
theorem before2 (c : Dev nD) (t : Fin cfg0.N) (d) : (dat0 m D c).before 2 t d = iblk m c 2 t :=
  ((dat0 m D c).before_in_eq_fetched 2 rfl (fun _ => rfl) (fun _ _ _ => rfl)
    (fun t => by rw [after2]; unfold Dat.blockOf iblk; rw [A_eq]; try rfl) t d).trans (by unfold Dat.fetched Dat.blockOf iblk; rw [A_eq]; try rfl)

theorem idle3 (t : Fin cfg0.N) (h : ¬ Last (grid0.coords t)) : cfg0.idle 3 (grid0.coords t) = true := by
  show (!(k0_cond2 (grid0.coords t) == 1#1)) = true
  rw [beq_false_of_ne h]; rfl
theorem idle4 (t : Fin cfg0.N) (h : ¬ Last (grid0.coords t)) : cfg0.idle 4 (grid0.coords t) = true := idle3 t h
theorem live3 (t : Fin cfg0.N) (h : Last (grid0.coords t)) : cfg0.idle 3 (grid0.coords t) = false := by
  show (!(k0_cond2 (grid0.coords t) == 1#1)) = false
  rw [show k0_cond2 (grid0.coords t) = 1#1 from h]; rfl
theorem live4 (t : Fin cfg0.N) (h : Last (grid0.coords t)) : cfg0.idle 4 (grid0.coords t) = false := live3 t h
theorem noFlush3 (t : Fin cfg0.N) (h : ¬ Last (grid0.coords t)) : (cfg0.win 3).flush t = false :=
  Bool.eq_false_iff.mpr fun e => h ((last_iff t).mpr ((flush0_3 t).mp e))
theorem noFlush4 (t : Fin cfg0.N) (h : ¬ Last (grid0.coords t)) : (cfg0.win 4).flush t = false :=
  Bool.eq_false_iff.mpr fun e => h ((last_iff t).mpr ((flush0_4 t).mp e))

theorem leaves0 (c : Dev nD) (t : Fin cfg0.N) :
    ((dat0 m D c).leavesExact 0 t : sProp 𝕄) = owns (c : Thread nD τ) ((cfg0.win 0).stage (cfg0.slots t 0)) fullShare (iblk m c 0 t) := by
  unfold Dat.leavesExact; rw [show cfg0.idle 0 (cfg0.grid.coords t) = false from rfl, after0]
theorem leaves1 (c : Dev nD) (t : Fin cfg0.N) :
    ((dat0 m D c).leavesExact 1 t : sProp 𝕄) = owns (c : Thread nD τ) ((cfg0.win 1).stage (cfg0.slots t 1)) fullShare (iblk m c 1 t) := by
  unfold Dat.leavesExact; rw [show cfg0.idle 1 (cfg0.grid.coords t) = false from rfl, after1]
theorem leaves2 (c : Dev nD) (t : Fin cfg0.N) :
    ((dat0 m D c).leavesExact 2 t : sProp 𝕄) = owns (c : Thread nD τ) ((cfg0.win 2).stage (cfg0.slots t 2)) fullShare (iblk m c 2 t) := by
  unfold Dat.leavesExact; rw [show cfg0.idle 2 (cfg0.grid.coords t) = false from rfl, after2]

/-- A result's buffer at a point's end, from what the body leaves in it: the planes' result at the last point of a batch,
    what it held elsewhere. -/
theorem leaves3 (c : Dev nD) (t : Fin cfg0.N) (d) :
    owns (c : Thread nD τ) ((cfg0.win 3).stage (cfg0.slots t 3)) fullShare
        (if Last (grid0.coords t) then outO (planesAt m c t.val) else (dat0 m D c).before 3 t d : Vec F S1x32x8x128 .f32)
      ⊢ ((dat0 m D c).leavesExact 3 t : sProp 𝕄) := by
  by_cases h : Last (grid0.coords t)
  · rw [if_pos h]; unfold Dat.leavesExact; rw [show cfg0.idle 3 (cfg0.grid.coords t) = false from live3 t h, after3]
  · rw [if_neg h, Dat.leavesExact_idle (dat0 m D c) 3 t (idle3 t h) (noFlush3 t h)]
    iintro H; iexists _; iexact H
theorem leaves4 (c : Dev nD) (t : Fin cfg0.N) (d) :
    owns (c : Thread nD τ) ((cfg0.win 4).stage (cfg0.slots t 4)) fullShare
        (if Last (grid0.coords t) then outS (planesAt m c t.val) else (dat0 m D c).before 4 t d : Vec F S1x32x8x2 .f32)
      ⊢ ((dat0 m D c).leavesExact 4 t : sProp 𝕄) := by
  by_cases h : Last (grid0.coords t)
  · rw [if_pos h]; unfold Dat.leavesExact; rw [show cfg0.idle 4 (cfg0.grid.coords t) = false from live4 t h, after4]
  · rw [if_neg h, Dat.leavesExact_idle (dat0 m D c) 4 t (idle4 t h) (noFlush4 t h)]
    iintro H; iexists _; iexact H

/-- The planes after a point, from planes that are the point before's. -/
theorem planesNext_eq (c : Dev nD) (t : Fin cfg0.N) (s : Planes F) (hs : ∀ k, t.val = k + 1 → s = planesAt m c k) :
    planesNext m c t s = planesAt m c t.val := by
  obtain ⟨n, hn⟩ := t
  cases n with
  | zero =>
    have hf : First (grid0.coords (⟨0, hn⟩ : Fin cfg0.N)) := (first_iff ⟨0, hn⟩).mpr rfl
    show _ = planesNext m c (ptOf 0) Planes.init
    rw [show ptOf 0 = (⟨0, hn⟩ : Fin cfg0.N) from rfl]
    unfold planesNext Planes.start
    rw [if_pos hf, if_pos hf]
  | succ n =>
    show _ = planesNext m c (ptOf (n + 1)) (planesAt m c n)
    rw [show ptOf (n + 1) = (⟨n + 1, hn⟩ : Fin cfg0.N) from ptOf_val ⟨n + 1, hn⟩, hs n rfl]

/-- The body at a point meets the proof data. -/
theorem body0 (c : Dev nD) : BodyObligation (dat0 m D c) (defs₀ (F := F)) Variants.none () Set.univ := fun t => by
  rw [bigSep_W0, bigSep_W0]
  rw [show (dat0 m D c).Φ t.castSucc = between m c t.val from rfl, show (dat0 m D c).Φ t.succ = between m c (t.val + 1) from rfl]
  rw [show (dat0 m D c).owesAt () t.succ = (dat0 m D c).owesAt () t.castSucc from rfl]
  show _ ⊢ wp frame (wpE (defs₀ (F := F)) Variants.none c none) Set.univ (bodyAt0 t) _
  simp only [before0, before1, before2]
  unfold between
  iintro ⟨⟨%s, %hs, HA, HM, HL, Hrest, Hg⟩, Ho, ⟨%d0, H0⟩, ⟨%d1, H1⟩, ⟨%d2, H2⟩, ⟨%d3, H3⟩, ⟨%d4, H4⟩⟩
  unfold bodyAt0
  iapply (body_run c (grid0.coords t) _ _ _ _ _ _ _ _ _ _ _ _ _ (Memref.isWhole_whole _) (Memref.isWhole_whole _) (Memref.isWhole_whole _)
    (qBlk m c t) (kBlk m c t) (vBlk m c t) ((dat0 m D c).before 3 t d3) ((dat0 m D c).before 4 t d4) s Set.univ _)
  isplitl [H0]; · iexact H0
  isplitl [H1]; · iexact H1
  isplitl [H2]; · iexact H2
  isplitl [H3]; · iexact H3
  isplitl [H4]; · iexact H4
  isplitl [HA]; · iexact HA
  isplitl [HM]; · iexact HM
  isplitl [HL]; · iexact HL
  rw [show (s.start (grid0.coords t)).step (qBlk m c t) (kBlk m c t) (vBlk m c t) = planesAt m c t.val from planesNext_eq m c t s hs]
  iintro ⟨H0, H1, H2, H3, H4, HA, HM, HL⟩
  isplitl [HA HM HL Hrest Hg]
  · iexists (planesAt m c t.val)
    isplitr; · ipureintro; intro k hk; rw [Nat.succ_injective hk]
    isplitl [HA]; · iexact HA
    isplitl [HM]; · iexact HM
    isplitl [HL]; · iexact HL
    isplitl [Hrest]; · iexact Hrest
    iexact Hg
  isplitl [Ho]; · iexact Ho
  isplitl [H0]; · rw [after0 m D c t]; iexact H0
  isplitl [H1]; · rw [after1 m D c t]; iexact H1
  isplitl [H2]; · rw [after2 m D c t]; iexact H2
  isplitl [H3]; · iapply (leaves3 m D c t d3); iexact H3
  iapply (leaves4 m D c t d4); iexact H4

end

end Cert.KernelIdeal.Flash
-- ==== Proof.Launch.Dat.lean ====
/- The communication call's proof data, over what the flash-decoding call leaves in its two results, and that the call's body
   meets it. -/
module

public import proofs.«01_k».proof.Proof.Talk.Body
public import proofs.«01_k».proof.Proof.Flash.Dat

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The buffers' contents between the calls -/

/-- The flash-decoding call's proof data: the core owes its barrier signal and its copies throughout. -/
abbrev datF (c : Dev nD) : Dat τ (Elt F) Unit ℕ UU ℕ cfg0 c := Flash.dat0 m O₀ c

/-- A device's unscoped buffers after the flash-decoding call. -/
def V₁ (c : Dev nD) : Valuation τ sig (Elt F) :=
  Function.update (Function.update (V0 m c) main_v1_0 ((datF m c).arrAt 3 cfg0.N)) main_v1_1 ((datF m c).arrAt 4 cfg0.N)

/-- The communication call's one block of each operand: the operand. -/
def sums (c : Dev nD) : Vec F S4x32x8x128 .f32 := ((cfg1.win 0).blk t1_0).view.read (Elt F) (V₁ m c (Pipeline.arrRef spec1 0))
def stats (c : Dev nD) : Vec F S4x32x8x2 .f32 := ((cfg1.win 1).blk t1_0).view.read (Elt F) (V₁ m c (Pipeline.arrRef spec1 1))
/-- What the communication call stores. -/
def merged (c : Dev nD) : Vec F S4x32x8x128 .f32 := merge (sums m c) (stats m c) (sums m (pr c)) (stats m (pr c))

/-! ## What the invariant holds -/

/-- The other call's buffers, at anything. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- The receive buffers, at anything. -/
def slots (c : Dev nD) : sProp 𝕄 := iprop((∃ f, dstOPts (F := F) c f) ∗ (∃ f, dstTPts (F := F) c f))

/-- The call's own four counters, at zero. -/
def ownZero (c : Dev nD) : sProp 𝕄 :=
  iprop(semVal (sendOCell c) 0 ∗ semVal (sendTCell c) 0 ∗ semVal (recvOCell c) 0 ∗ semVal (recvTCell c) 0)

/-- What enters the call, its cells open: the protocol's ghost state, the credits and the levels. -/
def Xk (c : Dev nD) : sProp 𝕄 := iprop((∃ K, opened (sums m) (stats m) K c) ∗ creds c ∗ levAts L lv)

/-- The call owes `O₀` before its one point and nothing after; the invariant has the protocol before and the counters
    at zero after. -/
def dat1 (c : Dev nD) : Dat τ (Elt F) Unit ℕ UU ℕ cfg1 c where
  A w := V₁ m c (Pipeline.arrRef spec1 w)
  after w t := match w with
    | ⟨0, _⟩ => sums m c
    | ⟨1, _⟩ => stats m c
    | ⟨2, _⟩ => merged m c
  Φ t := if t.val = 0 then iprop(Xk m c ∗ (slots c ∗ others c) ∗ ∃ r, prngReg c r)
    else iprop(semVal (barCell c) 0 ∗ ownZero c ∗ (slots c ∗ others c) ∗ ∃ r, prngReg c r)
  q _ := fullShare
  owed t := if t.val = 0 then O₀ c else 0

theorem after1_0 (c : Dev nD) (t : Fin cfg1.N) : (dat1 m c).after 0 t = sums m c := by dsimp only [dat1]
theorem after1_1 (c : Dev nD) (t : Fin cfg1.N) : (dat1 m c).after 1 t = stats m c := by dsimp only [dat1]
theorem after1_2 (c : Dev nD) (t : Fin cfg1.N) : (dat1 m c).after 2 t = merged m c := by dsimp only [dat1]
theorem before1_0 (c : Dev nD) (d) : (dat1 m c).before 0 t1_0 d = sums m c :=
  ((dat1 m c).before_in_eq_fetched 0 rfl (fun _ => rfl) (fun _ _ _ => rfl)
    (fun t => by rw [fin_N1 t]; rfl) t1_0 d).trans rfl
theorem before1_1 (c : Dev nD) (d) : (dat1 m c).before 1 t1_0 d = stats m c :=
  ((dat1 m c).before_in_eq_fetched 1 rfl (fun _ => rfl) (fun _ _ _ => rfl)
    (fun t => by rw [fin_N1 t]; rfl) t1_0 d).trans rfl

theorem owed1_zero (c : Dev nD) : (dat1 m c).owed 0 = O₀ c := by
  show (if ((0 : Fin (cfg1.N + 1)).val = 0) then O₀ c else 0) = O₀ c; exact if_pos rfl
theorem owed1_first (c : Dev nD) : (dat1 m c).owed t1_0.castSucc = O₀ c := by
  show (if (t1_0.castSucc : Fin (cfg1.N + 1)).val = 0 then O₀ c else 0) = O₀ c; exact if_pos rfl
theorem owed1_last (c : Dev nD) : (dat1 m c).owed (Fin.last cfg1.N) = 0 := by
  show (if (Fin.last cfg1.N).val = 0 then O₀ c else 0) = 0
  exact if_neg (by rw [Fin.val_last, show cfg1.N = 1 from N_1]; decide)
theorem owed1_next (c : Dev nD) : (dat1 m c).owed t1_0.succ = 0 := rfl

theorem owesAt_of {cfg : Cfg sig Λ₀} {c : Dev nD} (d : Dat τ (Elt F) Unit ℕ UU ℕ cfg c) (t : Fin (cfg.N + 1))
    {O : CellTallies nD τ sig Unit} (ho : d.owed t = O) (hr : d.recorded t = Set.univ) (W : Waits sig Unit) :
    (owes (c : Thread nD τ) O W : sProp 𝕄) ⊢ d.owesAt () t := by
  subst ho
  unfold Dat.owesAt Pipeline.owesWithin Dat.bound
  rw [hr]
  iintro H
  iexists W
  isplitr
  · ipureintro; intro _ _; exact Or.inl trivial
  · iexact H
theorem owesAt_out {cfg : Cfg sig Λ₀} {c : Dev nD} (d : Dat τ (Elt F) Unit ℕ UU ℕ cfg c) (t : Fin (cfg.N + 1))
    {O : CellTallies nD τ sig Unit} (ho : d.owed t = O) :
    (d.owesAt () t : sProp 𝕄) ⊢ ∃ W, owes (c : Thread nD τ) O W := by
  subst ho
  unfold Dat.owesAt Pipeline.owesWithin
  iintro ⟨%W, -, H⟩
  iexists W; iexact H

theorem srcO_owns (c : Dev nD) (x : Vec F S4x32x8x128 .f32) :
    (owns (c : Thread nD τ) ((cfg1.win 0).stage (cfg1.slots t1_0 0)) fullShare x : sProp 𝕄) = srcOPts c x :=
  (owns_whole (c : Thread nD τ) cc1_stg0_0 fullShare x).trans (by
    show _ = (((c : Thread nD τ).loc cc1_stg0_0) ↦[(View.whole cc1_stg0_0).set]{fullShare} x : sProp 𝕄)
    rw [View.set_whole])
theorem srcT_owns (c : Dev nD) (y : Vec F S4x32x8x2 .f32) :
    (owns (c : Thread nD τ) ((cfg1.win 1).stage (cfg1.slots t1_0 1)) fullShare y : sProp 𝕄) = srcTPts c y :=
  (owns_whole (c : Thread nD τ) cc1_stg1_0 fullShare y).trans (by
    show _ = (((c : Thread nD τ).loc cc1_stg1_0) ↦[(View.whole cc1_stg1_0).set]{fullShare} y : sProp 𝕄)
    rw [View.set_whole])

/-- The body at the call's one point meets the proof data. -/
theorem body1 (c : Dev nD) : BodyObligation (dat1 m c) (defs₀ (F := F)) 𝒱₀ () Set.univ := fun t => by
  obtain rfl := fin_N1 t
  rw [bigSep_W1, bigSep_W1]
  rw [show (dat1 m c).Φ t1_0.castSucc = iprop(Xk m c ∗ (slots c ∗ others c) ∗ ∃ r, prngReg c r) from rfl,
    show (dat1 m c).Φ t1_0.succ = iprop(semVal (barCell c) 0 ∗ ownZero c ∗ (slots c ∗ others c) ∗ ∃ r, prngReg c r) from rfl]
  show _ ⊢ wp frame (wpE (defs₀ (F := F)) 𝒱₀ c none) Set.univ (bodyAt1 t1_0) _
  simp only [before1_0, before1_1]
  unfold Xk slots ownZero
  iintro ⟨⟨⟨⟨%K, Hg⟩, Hc, Hl⟩, ⟨⟨HdO, HdT⟩, Hoth⟩, Hp⟩, Ho, ⟨%d0, H0⟩, ⟨%d1, H1⟩, ⟨%d2, H2⟩⟩
  ihave Ho' := (owesAt_out (dat1 m c) _ (owed1_first m c)) $$ Ho
  icases Ho' with ⟨%W, Ho⟩
  iapply (talkRun (sums m) (stats m) K c W _)
  isplitl [Hg Hc Hl HdO HdT H0 H1 H2 Ho]
  · unfold talkPre
    isplitl [Hg]; · iexact Hg
    isplitl [Hc]; · iexact Hc
    isplitl [Hl]; · iexact Hl
    isplitl [HdO]; · iexact HdO
    isplitl [HdT]; · iexact HdT
    isplitl [H0]; · iapply (Entails.of_eq (srcO_owns c (sums m c))); iexact H0
    isplitl [H1]; · iapply (Entails.of_eq (srcT_owns c (stats m c))); iexact H1
    isplitl [H2]; · iexists _; iexact H2
    iexact Ho
  unfold talkPost
  iintro ⟨⟨Hb, Hz⟩, HdO, HdT, H0, H1, H2, %W', Ho⟩
  isplitl [Hb Hz HdO HdT Hoth Hp]
  · isplitl [Hb]; · iexact Hb
    isplitl [Hz]; · iexact Hz
    isplitl [HdO HdT Hoth]
    · isplitl [HdO HdT]
      · isplitl [HdO]; · iexact HdO
        iexact HdT
      iexact Hoth
    iexact Hp
  isplitl [Ho]; · iapply (owesAt_of (dat1 m c) t1_0.succ (owed1_next m c) rfl W'); iexact Ho
  isplitl [H0]; · rw [after1_0, srcO_owns]; iexact H0
  isplitl [H1]; · rw [after1_1, srcT_owns]; iexact H1
  rw [after1_2]; iexact H2

end Cert.KernelIdeal.Talk
-- ==== Proof.Launch.Regions.lean ====
/- The two calls as the program's regions: each with what it is entered from and left with. -/
module

public import proofs.«01_k».proof.Proof.Launch.Dat
public import Idealize.ShloMosaic.Lib.Pipeline.RegionTalk

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-- A device's unscoped buffers at the end. -/
def V₂ (c : Dev nD) : Valuation τ sig (Elt F) := Function.update (V₁ m c) main_v2 ((dat1 m c).arrAt 2 cfg1.N)

theorem V₁_of (c : Dev nD) (r : Ref sig .tc) (h0 : r ≠ main_v1_0) (h1 : r ≠ main_v1_1) : V₁ m c r = V0 m c r := by
  unfold V₁
  rw [Function.update_of_ne (StableHlo.devRef_ne_of_ne h1), Function.update_of_ne (StableHlo.devRef_ne_of_ne h0)]
theorem V₁_sums (c : Dev nD) : V₁ m c main_v1_0 = (datF m c).arrAt 3 cfg0.N := by
  unfold V₁
  rw [Function.update_of_ne (StableHlo.devRef_ne_of_ne (by decide)), Function.update_self]
theorem V₁_stats (c : Dev nD) : V₁ m c main_v1_1 = (datF m c).arrAt 4 cfg0.N := by
  unfold V₁
  rw [Function.update_self]
theorem V₂_of (c : Dev nD) (r : Ref sig .tc) (h : r ≠ main_v2) : V₂ m c r = V₁ m c r := by
  unfold V₂
  rw [Function.update_of_ne (StableHlo.devRef_ne_of_ne h)]
theorem V₂_out (c : Dev nD) : V₂ m c main_v2 = (dat1 m c).arrAt 2 cfg1.N := by
  unfold V₂
  rw [Function.update_self]
/-- Neither call changes an argument. -/
theorem V₂_arg (c : Dev nD) (r : Ref sig .tc) (h : r ∈ [main_arg0, main_arg1, main_arg2]) : V₂ m c r = V0 m c r := by
  have hh : ∀ r ∈ [main_arg0, main_arg1, main_arg2], r ≠ main_v2 ∧ r ≠ main_v1_0 ∧ r ≠ main_v1_1 := by decide
  obtain ⟨h2, h0, h1⟩ := hh r h
  rw [V₂_of m c r h2, V₁_of m c r h0 h1]

def pdats : (p : Fin 2) → (c : Dev nD) → Dat τ (Elt F) Unit ℕ UU ℕ (cfgs p) c
  | 0 => datF m
  | 1 => dat1 m

/-- What a device carries through the flash-decoding call for the communication call. -/
def Tk (c : Dev nD) : sProp 𝕄 := iprop((∃ K, ghost (sums m) (stats m) K c) ∗ creds c)

/-! ## The flash-decoding call -/

theorem hin0 (c : Dev nD) : iprop(Pipeline.scopedRest spec0 c ∗ ∃ r, prngReg c r) ⊢ ((datF m c).Φ 0 : sProp 𝕄) := by
  show _ ⊢ Flash.between m c 0
  rw [scopedRest0_eq]
  unfold Flash.between
  iintro ⟨⟨⟨%a, HA⟩, ⟨%x, HM⟩, ⟨%s, HS⟩, Hrest⟩, Hp⟩
  iexists (⟨a, x, s⟩ : Flash.Planes F)
  rw [owns_whole, owns_whole, owns_whole]
  isplitr; · ipureintro; intro k hk; omega
  isplitl [HA]; · iexact HA
  isplitl [HM]; · iexact HM
  isplitl [HS]; · iexact HS
  isplitl [Hrest]; · iexact Hrest
  iexact Hp

theorem hout0 (c : Dev nD) : ((datF m c).Φ (Fin.last cfg0.N) : sProp 𝕄) ⊢ iprop(Pipeline.scopedRest spec0 c ∗ ∃ r, prngReg c r) := by
  show Flash.between m c (Fin.last cfg0.N).val ⊢ _
  rw [scopedRest0_eq]
  unfold Flash.between
  simp only [owns_whole]
  iintro ⟨%s, -, HA, HM, HS, Hrest, Hp⟩
  isplitr [Hp]
  · isplitl [HA]; · iexists _; iexact HA
    isplitl [HM]; · iexists _; iexact HM
    isplitl [HS]; · iexists _; iexact HS
    iexact Hrest
  iexact Hp

theorem stage0_low : ∀ (w : Fin cfg0.W) (s : Fin (cfg0.win w).nbuf), ∀ k : Fin 5, SemLoc.dma ((cfg0.win w).sem s) ≠ tsem k := by decide
theorem stage1_low : ∀ (w : Fin cfg1.W) (s : Fin (cfg1.win w).nbuf), ∀ k : Fin 5, SemLoc.dma ((cfg1.win w).sem s) ≠ tsem k := by decide
theorem lv_low (c : Dev nD) (s : SemLoc sig) (h : ∀ k, s ≠ tsem k) : lv ((c : Thread nD τ), s) () ≤ 0 := by
  unfold lv
  rw [if_neg (h 0), if_neg (by rintro (e | e); exacts [h 3 e, h 4 e])]

theorem arrs0 (c : Dev nD) (w : Fin cfg0.W) : (datF m c).arrAt w cfg0.N = V₁ m c (Pipeline.arrRef spec0 w) := by
  have hin : ∀ w : Fin cfg0.W, w = 3 ∨ w = 4 ∨ ((cfg0.win w).isOut = false ∧ Pipeline.arrRef spec0 w ≠ main_v1_0 ∧ Pipeline.arrRef spec0 w ≠ main_v1_1) := by decide
  rcases hin w with rfl | rfl | ⟨hi, h0, h1⟩
  · exact (V₁_sums m c).symm
  · exact (V₁_stats m c).symm
  · rw [V₁_of m c _ h0 h1]
    exact ((datF m c).arrAt_in w hi cfg0.N).trans (Flash.A_eq m O₀ c w)

/-- Beside the windows' arrays the flash-decoding call leaves every buffer as it was. -/
theorem rest0 (c : Dev nD) :
    (StableHlo.held (c : Thread nD τ) (Pipeline.ucRefs τ sig \ Pipeline.arrRefs spec0) (V0 m c) : sProp 𝕄)
      = StableHlo.held (c : Thread nD τ) (Pipeline.ucRefs τ sig \ Pipeline.arrRefs spec0) (V₁ m c) := by
  unfold StableHlo.held
  refine bigSep_congr fun b hb => ?_
  have hh : ∀ b ∈ (Pipeline.ucRefs τ sig \ Pipeline.arrRefs spec0), b ≠ Proc.devRef .tc main_v1_0 ∧ b ≠ Proc.devRef .tc main_v1_1 := by decide
  obtain ⟨h0, h1⟩ := hh b hb
  unfold V₁
  rw [Function.update_of_ne h1, Function.update_of_ne h0]

set_option backward.isDefEq.respectTransparency.types false in
def reg0 : Pipeline.RegionSeg (pcfgs (F := F)) adm (pdats m) () defs₀ 𝒱₀ L lv 0 :=
  Pipeline.RegionSeg.ofHeld (pcfgs (F := F)) adm (pdats m) () defs₀ 𝒱₀ L lv 0 O₀
    (fun c => iprop(∃ r, prngReg c r)) (fun c => iprop(∃ r, prngReg c r)) launch0.toP rfl
    (fun c => (Flash.body0 m O₀ c).loose) (fun _ _ => rfl) (fun _ => rfl)
    (fun c w => by show (datF m c).share w = fullShare; unfold Dat.share; split <;> rfl)
    (hin0 m) (hout0 m) (fun _ => 0)
    ⟨fun c w s => by rw [L_tc]; exact Finset.mem_singleton_self _, fun c w s => lv_low c _ (stage0_low w s), fun c g i h => O₀_pos h⟩
    (fun c => iprop(StableHlo.held (c : Thread nD τ) (Pipeline.ucRefs τ sig \ Pipeline.arrRefs spec0) (V0 m c) ∗ Tk m c))
    (V0 m) (V₁ m) (fun _ _ => rfl) (fun c w => arrs0 m c w)

/-! ## The communication call -/

theorem ownSems_eq (c : Dev nD) : (Pipeline.ownSems0 osem c : sProp 𝕄) = ownZero c := by
  unfold Pipeline.ownSems0 ownZero
  rw [bigSep_univ_eq_bigSepL [(0 : Fin 4), 1, 2, 3] (by decide) (by decide)]
  rfl

theorem slots_eq (c : Dev nD) : (slots c : sProp 𝕄)
    = iprop((∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f)) := by
  have ho : ∀ f, (dstOPts c f : sProp 𝕄) = (((c : Thread nD τ).loc cc1_scratch0) ↦{fullShare} f) := fun f => by
    show (((c : Thread nD τ).loc cc1_scratch0) ↦[(View.whole cc1_scratch0).set]{fullShare} f : sProp 𝕄) = _
    rw [View.set_whole]
  have ht : ∀ f, (dstTPts c f : sProp 𝕄) = (((c : Thread nD τ).loc cc1_scratch1) ↦{fullShare} f) := fun f => by
    show (((c : Thread nD τ).loc cc1_scratch1) ↦[(View.whole cc1_scratch1).set]{fullShare} f : sProp 𝕄) = _
    rw [View.set_whole]
  unfold slots
  simp only [ho, ht]
  rfl

/-- The scoped buffers no window of the call stages: the other call's and the receive buffers. -/
theorem scoped1_in (c : Dev nD) : (Pipeline.scopedRest spec1 c : sProp 𝕄) ⊢ iprop(slots c ∗ others c) := by
  rw [scopedRest1_eq, slots_eq]
  unfold others
  iintro ⟨a0, a1, b0, b1, c0, c1, d0, d1, e0, e1, s0, s1, s2, HO, HT⟩
  isplitl [HO HT]
  · isplitl [HO]; · iexact HO
    iexact HT
  isplitl [a0]; · iexact a0
  isplitl [a1]; · iexact a1
  isplitl [b0]; · iexact b0
  isplitl [b1]; · iexact b1
  isplitl [c0]; · iexact c0
  isplitl [c1]; · iexact c1
  isplitl [d0]; · iexact d0
  isplitl [d1]; · iexact d1
  isplitl [e0]; · iexact e0
  isplitl [e1]; · iexact e1
  isplitl [s0]; · iexact s0
  isplitl [s1]; · iexact s1
  iexact s2
theorem scoped1_out (c : Dev nD) : iprop(slots c ∗ others c) ⊢ (Pipeline.scopedRest spec1 c : sProp 𝕄) := by
  rw [scopedRest1_eq, slots_eq]
  unfold others
  iintro ⟨⟨HO, HT⟩, a0, a1, b0, b1, c0, c1, d0, d1, e0, e1, s0, s1, s2⟩
  isplitl [a0]; · iexact a0
  isplitl [a1]; · iexact a1
  isplitl [b0]; · iexact b0
  isplitl [b1]; · iexact b1
  isplitl [c0]; · iexact c0
  isplitl [c1]; · iexact c1
  isplitl [d0]; · iexact d0
  isplitl [d1]; · iexact d1
  isplitl [e0]; · iexact e0
  isplitl [e1]; · iexact e1
  isplitl [s0]; · iexact s0
  isplitl [s1]; · iexact s1
  isplitl [s2]; · iexact s2
  isplitl [HO]; · iexact HO
  iexact HT

/-- The four cells open on the call's entry, its counters being at zero. -/
theorem hopen1 (c : Dev nD) : iprop(Tk m c ∗ Pipeline.ownSems0 osem c ∗ levAts L lv) ⊢ (|={Set.univ}=> Xk m c : sProp 𝕄) := by
  rw [ownSems_eq]
  unfold Tk Xk ghost ownZero invs
  iintro ⟨⟨⟨%K, ⟨#I0, #I1, #I2, #I3, #I4, #I5, #I6, #I7⟩, Hat, ⟨Ho1, Ho2, Ho3, Ho4⟩, #Hr, Htk⟩, Hc⟩, ⟨Hz1, Hz2, Hz3, Hz4⟩, #Hl⟩
  imod (openCell (sums m) (stats m) (K (sendOCell c)) (sendOCell c)) $$ [Ho1 Hz1] with H1
  · isplitr; · iexact I1
    isplitl [Ho1] <;> iassumption
  imod (openCell (sums m) (stats m) (K (sendTCell c)) (sendTCell c)) $$ [Ho2 Hz2] with H2
  · isplitr; · iexact I2
    isplitl [Ho2] <;> iassumption
  imod (openCell (sums m) (stats m) (K (recvOCell c)) (recvOCell c)) $$ [Ho3 Hz3] with H3
  · isplitr; · iexact I3
    isplitl [Ho3] <;> iassumption
  imod (openCell (sums m) (stats m) (K (recvTCell c)) (recvTCell c)) $$ [Ho4 Hz4] with H4
  · isplitr; · iexact I4
    isplitl [Ho4] <;> iassumption
  imodintro
  isplitr [Hc]
  · iexists K
    unfold opened invs
    isplitr
    · isplitr; · iexact I0
      isplitr; · iexact I1
      isplitr; · iexact I2
      isplitr; · iexact I3
      isplitr; · iexact I4
      isplitr; · iexact I5
      isplitr; · iexact I6
      iexact I7
    isplitl [Hat]; · iexact Hat
    isplitl [H1 H2 H3 H4]
    · isplitl [H1]; · iexact H1
      isplitl [H2]; · iexact H2
      isplitl [H3]; · iexact H3
      iexact H4
    isplitr; · iexact Hr
    iexact Htk
  isplitl [Hc]; · iexact Hc
  iexact Hl

/-- No buffer is held for the body beside the windows'. -/
theorem held_none (c : Dev nD) (W : Valuation τ sig (Elt F)) : (StableHlo.held (c : Thread nD τ) ∅ W : sProp 𝕄) = BI.emp := by
  unfold StableHlo.held
  exact BI.bigSep_empty

theorem hin1 (c : Dev nD) :
    iprop(Pipeline.scopedRest spec1 c ∗ (∃ r, prngReg c r) ∗ StableHlo.held (c : Thread nD τ) ∅ (V₁ m c) ∗ Xk m c) ⊢ ((dat1 m c).Φ 0 : sProp 𝕄) := by
  rw [show (dat1 m c).Φ 0 = iprop(Xk m c ∗ (slots c ∗ others c) ∗ ∃ r, prngReg c r) from rfl]
  iintro ⟨Hs, Hp, -, HX⟩
  isplitl [HX]; · iexact HX
  isplitl [Hs]; · iapply (scoped1_in c); iexact Hs
  iexact Hp

theorem hout1 (c : Dev nD) : ((dat1 m c).Φ (Fin.last cfg1.N) : sProp 𝕄)
    ⊢ iprop(Pipeline.scopedRest spec1 c ∗ (∃ r, prngReg c r) ∗ StableHlo.held (c : Thread nD τ) ∅ (V₂ m c) ∗ Pipeline.ownSems0 osem c ∗ semVal (barCell c) 0) := by
  rw [show (dat1 m c).Φ (Fin.last cfg1.N) = iprop(semVal (barCell c) 0 ∗ ownZero c ∗ (slots c ∗ others c) ∗ ∃ r, prngReg c r) from rfl,
    ownSems_eq, held_none]
  iintro ⟨Hb, Hz, Hs, Hp⟩
  isplitl [Hs]; · iapply (scoped1_out c); iexact Hs
  isplitl [Hp]; · iexact Hp
  isplitr; · iempintro
  isplitl [Hz]; · iexact Hz
  iexact Hb

theorem arrs1 (c : Dev nD) (w : Fin cfg1.W) : (dat1 m c).arrAt w cfg1.N = V₂ m c (Pipeline.arrRef spec1 w) := by
  have hin : ∀ w : Fin cfg1.W, w = 2 ∨ ((cfg1.win w).isOut = false ∧ Pipeline.arrRef spec1 w ≠ main_v2) := by decide
  rcases hin w with rfl | ⟨hi, h2⟩
  · exact (V₂_out m c).symm
  · rw [V₂_of m c _ h2]
    exact (dat1 m c).arrAt_in w hi cfg1.N

theorem rest1 (c : Dev nD) : ∀ b ∈ (Pipeline.ucRefs τ sig \ Pipeline.arrRefs spec1) \ ∅, V₂ m c b = V₁ m c b := by
  intro b hb
  have hh : ∀ b ∈ (Pipeline.ucRefs τ sig \ Pipeline.arrRefs spec1) \ ∅, b ≠ Proc.devRef .tc main_v2 := by decide
  unfold V₂
  rw [Function.update_of_ne (hh b hb)]

theorem cut1 (c : Dev nD) (t : Fin (cfg1.N + 1)) (g : GSem nD τ sig) (i : Unit) (h : 0 < (dat1 m c).owed t g i) :
    i ∈ L g ∧ (0 : ℕ) < lv g i := by
  have e : (dat1 m c).owed t = if t.val = 0 then O₀ c else 0 := rfl
  rw [e] at h
  split at h
  · exact O₀_pos h
  · exact absurd h (Nat.lt_irrefl 0)

set_option backward.isDefEq.respectTransparency.types false in
def reg1 : Pipeline.RegionSeg (pcfgs (F := F)) adm (pdats m) () defs₀ 𝒱₀ L lv 1 :=
  Pipeline.RegionSeg.ofTalk (pcfgs (F := F)) adm (pdats m) () defs₀ 𝒱₀ L lv 1 osem (by decide : Pipeline.OwnSemFacts spec1 osem)
    ∅ (Pipeline.ucRefs τ sig \ Pipeline.arrRefs spec1) (Finset.empty_subset _) launch1.toP rfl (fun c => (body1 m c).loose)
    (fun _ => 0) O₀ (fun c => (owed1_zero m c).trans (zero_add _).symm) (owed1_last m) (fun _ => rfl)
    (fun c w => by show (dat1 m c).share w = fullShare; unfold Dat.share; split <;> rfl)
    (V₁ m) (V₂ m) (rest1 m)
    (Tk m) (fun c => semVal (barCell c) 0) (Xk m) (fun c => semVal (barCell c) 0) (hopen1 m) (hin1 m) (hout1 m)
    (fun c => by iintro H; imodintro; iexact H)
    (fun _ => 0)
    ⟨fun c w s => by rw [L_tc]; exact Finset.mem_singleton_self _, fun c w s => lv_low c _ (stage1_low w s), fun c t g i h => cut1 m c t g i h⟩
    (fun _ => iprop(emp))
    (fun _ _ => rfl) (fun c w => arrs1 m c w)

/-! ## The program's states between the calls -/

/-- What a device holds beside its unscoped buffers until the communication call. -/
def carried (c : Dev nD) : sProp 𝕄 :=
  iprop(Tk m c ∗ (∃ r, prngReg c r) ∗ ∃ W, owes (c : Thread nD τ) (O₀ c) W)

theorem sub0 : Pipeline.arrRefs (τ := τ) spec0 ⊆ Pipeline.ucRefs τ sig := by decide
theorem sub1 : Pipeline.arrRefs (τ := τ) spec1 ⊆ Pipeline.ucRefs τ sig := by decide

theorem reg0_pre (c : Dev nD) : iprop(StableHlo.held (c : Thread nD τ) (Pipeline.ucRefs τ sig) (V0 m c) ∗ carried m c) ⊢ (reg0 m).pre c := by
  show _ ⊢ iprop(StableHlo.held (c : Thread nD τ) (Pipeline.arrRefs (τ := τ) spec0) (V0 m c) ∗ (∃ r, prngReg c r)
    ∗ (StableHlo.held (c : Thread nD τ) (Pipeline.ucRefs τ sig \ Pipeline.arrRefs spec0) (V0 m c) ∗ Tk m c) ∗ ∃ Wd, owes (c : Thread nD τ) (O₀ c) Wd)
  rw [StableHlo.held_sub_split (c : Thread nD τ) sub0 (V0 m c)]
  unfold carried
  iintro ⟨⟨Ha, Hr⟩, HT, Hp, Ho⟩
  isplitl [Ha]; · iexact Ha
  isplitl [Hp]; · iexact Hp
  isplitl [Hr HT]
  · isplitl [Hr]; · iexact Hr
    iexact HT
  iexact Ho

theorem reg0_post (c : Dev nD) : (reg0 m).post c ⊢ iprop(StableHlo.held (c : Thread nD τ) (Pipeline.ucRefs τ sig) (V₁ m c) ∗ carried m c) := by
  show iprop(StableHlo.held (c : Thread nD τ) (Pipeline.arrRefs (τ := τ) spec0) (V₁ m c) ∗ (∃ r, prngReg c r)
    ∗ (StableHlo.held (c : Thread nD τ) (Pipeline.ucRefs τ sig \ Pipeline.arrRefs spec0) (V0 m c) ∗ Tk m c) ∗ ∃ Wd, owes (c : Thread nD τ) (O₀ c) Wd) ⊢ _
  rw [StableHlo.held_sub_split (c : Thread nD τ) sub0 (V₁ m c), rest0 m c]
  unfold carried
  iintro ⟨Ha, Hp, ⟨Hr, HT⟩, Ho⟩
  isplitl [Ha Hr]
  · isplitl [Ha]; · iexact Ha
    iexact Hr
  isplitl [HT]; · iexact HT
  isplitl [Hp]; · iexact Hp
  iexact Ho

theorem reg1_pre (c : Dev nD) : iprop(StableHlo.held (c : Thread nD τ) (Pipeline.ucRefs τ sig) (V₁ m c) ∗ carried m c) ⊢ (reg1 m).pre c := by
  show _ ⊢ iprop(StableHlo.held (c : Thread nD τ) (Pipeline.arrRefs (τ := τ) spec1) (V₁ m c) ∗ (∃ r, prngReg c r)
    ∗ (StableHlo.held (c : Thread nD τ) (Pipeline.ucRefs τ sig \ Pipeline.arrRefs spec1) (V₁ m c) ∗ emp) ∗ Tk m c
    ∗ ∃ Wd, owes (c : Thread nD τ) (0 + O₀ c) Wd)
  rw [StableHlo.held_sub_split (c : Thread nD τ) sub1 (V₁ m c), zero_add]
  unfold carried
  iintro ⟨⟨Ha, Hr⟩, HT, Hp, Ho⟩
  isplitl [Ha]; · iexact Ha
  isplitl [Hp]; · iexact Hp
  isplitl [Hr]
  · isplitl [Hr]; · iexact Hr
    iempintro
  isplitl [HT]; · iexact HT
  iexact Ho

theorem reg1_post (c : Dev nD) : (reg1 m).post c
    ⊢ iprop((StableHlo.held (c : Thread nD τ) (Pipeline.ucRefs τ sig) (V₂ m c) ∗ semVal (barCell c) 0)
      ∗ ∃ W, owes (c : Thread nD τ) (0 : CellTallies nD τ sig Unit) W) := by
  show iprop(StableHlo.held (c : Thread nD τ) (Pipeline.arrRefs (τ := τ) spec1) (V₂ m c) ∗ (∃ r, prngReg c r)
    ∗ (StableHlo.held (c : Thread nD τ) (Pipeline.ucRefs τ sig \ Pipeline.arrRefs spec1) (V₂ m c) ∗ emp) ∗ semVal (barCell c) 0
    ∗ ∃ Wd, owes (c : Thread nD τ) (0 : CellTallies nD τ sig Unit) Wd) ⊢ _
  rw [StableHlo.held_sub_split (c : Thread nD τ) sub1 (V₂ m c)]
  iintro ⟨Ha, -, ⟨Hr, -⟩, Hb, Ho⟩
  isplitr [Ho]
  · isplitl [Ha Hr]
    · isplitl [Ha]; · iexact Ha
      iexact Hr
    iexact Hb
  iexact Ho

end Cert.KernelIdeal.Talk
-- ==== Proof.Launch.Run.lean ====
/- The program's run on all four devices: how the protocol's ghost state is made at launch and dealt out, and what every final
   state holds. -/
module

public import proofs.«01_k».proof.Proof.Launch.Regions
public import Idealize.ShloMosaic.Harness.Basic

@[expose] public section

set_option maxRecDepth 16384

noncomputable section

namespace Cert.KernelIdeal.Talk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation Seg)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The cells, and the tokens of their duties -/

theorem osem_ne_bar : ∀ k : Fin 4, osem k ≠ .reg barS := by decide

/-- The cells of all devices: a barrier each, funded with its counter, and the communication call's four each, which sleep
    until the call. -/
def atBar : Dev nD ↪ GSem nD τ sig := ⟨barCell, fun _ _ h => congrArg (fun g : GSem nD τ sig => g.1.1) h⟩
def atOwn : Dev nD × Fin 4 ↪ GSem nD τ sig where
  toFun ck := ((ck.1 : Thread nD τ), osem ck.2)
  inj' _ _ h := Prod.ext (congrArg (fun g : GSem nD τ sig => g.1.1) h) (osem_inj (congrArg Prod.snd h))
abbrev awake : Finset (GSem nD τ sig) := Finset.univ.map atBar
abbrev asleep : Finset (GSem nD τ sig) := Finset.univ.map atOwn
abbrev allCells : Finset (GSem nD τ sig) := awake ∪ asleep

/-- One duty in each cell's one round. -/
def atTok : Dev nD × Fin 5 ↪ GSem nD τ sig × ℕ × Unit where
  toFun ck := (((ck.1 : Thread nD τ), tsem ck.2), 0, ())
  inj' _ _ h := Prod.ext (congrArg (fun t : GSem nD τ sig × ℕ × Unit => t.1.1.1) h)
    (tsem_inj (congrArg (fun t : GSem nD τ sig × ℕ × Unit => t.1.2) h))
def duties : Finset (GSem nD τ sig × ℕ × Unit) := Finset.univ.map atTok

theorem cells_disjoint : Disjoint awake asleep := by
  refine Finset.disjoint_left.mpr fun g hb ho => ?_
  obtain ⟨c, -, rfl⟩ := Finset.mem_map.mp hb
  obtain ⟨ck, -, h⟩ := Finset.mem_map.mp ho
  exact osem_ne_bar ck.2 (congrArg Prod.snd h)

theorem mem_bar (c : Dev nD) : barCell c ∈ allCells :=
  Finset.mem_union_left _ (Finset.mem_map_of_mem atBar (Finset.mem_univ c))
theorem mem_own (c : Dev nD) (k : Fin 4) : ((c : Thread nD τ), osem k) ∈ allCells :=
  Finset.mem_union_right _ (Finset.mem_map_of_mem atOwn (Finset.mem_univ (c, k)))

/-- The launch's ghost element: the pipeline library's beside the protocol's. -/
def u₀ : UU :=
  (initOf (Pipeline.cells (Pipeline.pin (pcfgs (F := F)) adm) cellOf_inj) (Pipeline.launchToks (Pipeline.pin (pcfgs (F := F)) adm) cellOf_inj),
    launchOf awake asleep duties)

/-- The protocol's part waits on device 0 until all devices' holdings are together. -/
def G (c : Dev nD) : sProp 𝕄 := if c = 0 then BI.own (ER (launchOf awake asleep duties)) else iprop(emp)
theorem G_all : (bigSep Finset.univ (G (F := F)) : sProp 𝕄) = BI.own (ER (launchOf awake asleep duties)) := by
  rw [bigSep_univ_at _ (0 : Dev nD),
    bigSep_congr (s := Finset.univ.erase (0 : Dev nD)) (Ψ := fun _ => (BI.emp : sProp 𝕄))
      (fun c hc => by unfold G; rw [if_neg (Finset.ne_of_mem_erase hc)]; rfl), BI.bigSep_emp_const]
  unfold G
  rw [if_pos rfl]
  exact BI.equiv_iff.mp sep_emp

/-! ## Dealing -/

/-- What every device may look up: all invariants, and that every barrier is at its first round. -/
def records (κ : GSem nD τ sig → ℕ) : sProp 𝕄 :=
  iprop((bigSep allCells fun g => cellInv ER (talkRd (sums m) (stats m)) (κ g) g) ∗ bigSep awake fun g => reached ER g 0)

instance records_persistent (κ : GSem nD τ sig → ℕ) : BI.Persistent (records m κ) := by unfold records; infer_instance

theorem inv_of (κ : GSem nD τ sig → ℕ) {g : GSem nD τ sig} (hg : g ∈ allCells) :
    (bigSep allCells fun g => (cellInv ER (talkRd (sums m) (stats m)) (κ g) g : sProp 𝕄)) ⊢ cellInv ER (talkRd (sums m) (stats m)) (κ g) g :=
  bigSep_elim hg

theorem reached_of (c : Dev nD) : (bigSep awake fun g => (reached ER g 0 : sProp 𝕄)) ⊢ reached ER (barCell c) 0 :=
  bigSep_elim (Finset.mem_map_of_mem atBar (Finset.mem_univ c))

/-- What one device keeps for itself. -/
def share (c : Dev nD) : sProp 𝕄 :=
  iprop(atPos ER (barCell c) 0 ∅ 0
    ∗ (openTok ER (sendOCell c) ∗ openTok ER (sendTCell c) ∗ openTok ER (recvOCell c) ∗ openTok ER (recvTCell c)) ∗ payToks c)

theorem ghost_of (κ : GSem nD τ sig → ℕ) (c : Dev nD) : iprop(records m κ ∗ share c) ⊢ iprop(∃ K, ghost (sums m) (stats m) K c) := by
  unfold records share ghost invs
  iintro ⟨⟨#HI, #HR⟩, Hat, Ho, Ht⟩
  iexists κ
  isplitr
  · isplitr; · iapply (inv_of m κ (mem_bar c)); iexact HI
    isplitr; · iapply (inv_of m κ (mem_own c 0)); iexact HI
    isplitr; · iapply (inv_of m κ (mem_own c 1)); iexact HI
    isplitr; · iapply (inv_of m κ (mem_own c 2)); iexact HI
    isplitr; · iapply (inv_of m κ (mem_own c 3)); iexact HI
    isplitr; · iapply (inv_of m κ (mem_bar (pr c))); iexact HI
    isplitr; · iapply (inv_of m κ (mem_own (pr c) 2)); iexact HI
    iapply (inv_of m κ (mem_own (pr c) 3)); iexact HI
  isplitl [Hat]; · iexact Hat
  isplitl [Ho]; · iexact Ho
  isplitr; · iapply (reached_of (F := F) (pr c)); iexact HR
  iexact Ht

/-- The tokens by cell; and the same dealt to who pays them: the barrier's and the receive cells' to the other device. -/
theorem toks_dealt : (bigSep duties (fun x => (dutyTok ER x.1 x.2.1 x.2.2 : sProp 𝕄))) ⊢ bigSep Finset.univ fun c : Dev nD => payToks c := by
  unfold duties
  rw [bigSep_map, bigSep_univ_prod]
  rw [bigSep_congr (Ψ := fun c : Dev nD => iprop(dutyTok ER (barCell c) 0 () ∗ dutyTok ER (sendOCell c) 0 () ∗ dutyTok ER (sendTCell c) 0 ()
      ∗ dutyTok ER (recvOCell c) 0 () ∗ dutyTok ER (recvTCell c) 0 ()))
    (fun c _ => by rw [bigSep_univ_eq_bigSepL [(0 : Fin 5), 1, 2, 3, 4] (by decide) (by decide)]; rfl)]
  unfold payToks
  simp only [bigSep_sep']
  rw [bigSep_univ_equiv swap (fun c : Dev nD => (dutyTok ER (barCell c) 0 () : sProp 𝕄)),
    bigSep_univ_equiv swap (fun c : Dev nD => (dutyTok ER (recvOCell c) 0 () : sProp 𝕄)),
    bigSep_univ_equiv swap (fun c : Dev nD => (dutyTok ER (recvTCell c) 0 () : sProp 𝕄))]
  exact BI.Entails.refl _

/-! ## The credit at launch -/

theorem dev_of_cell {c d : Dev nD} {s s' : SemLoc sig} (h : (((c : Thread nD τ), s) : GSem nD τ sig) = ((d : Thread nD τ), s')) : c = d :=
  Fin.ext (congrArg (fun g : GSem nD τ sig => g.1.1.val) h)

/-- What device `d` owes device `c`'s cell of kind `k`, at launch: the price if it is the device `c` merges with. -/
theorem tally_pr (c d : Dev nD) (s s' : SemLoc sig) (n : ℕ) :
    tallyAt (((pr d : Dev nD) : Thread nD τ), s) () n (((c : Thread nD τ), s') : GSem nD τ sig) () = if s = s' ∧ d = pr c then n else 0 := by
  rw [tallyAt_apply]
  by_cases h : s = s' ∧ d = pr c
  · obtain ⟨rfl, rfl⟩ := h
    rw [pr_pr, if_pos ⟨rfl, rfl⟩, if_pos ⟨rfl, rfl⟩]
  · rw [if_neg h]
    refine if_neg fun hh => h ⟨(congrArg Prod.snd hh.1).symm, ?_⟩
    rw [← pr_pr d]
    exact congrArg pr (dev_of_cell hh.1).symm

theorem owed_at (d c : Dev nD) (s : SemLoc sig) :
    O₀ d (((c : Thread nD τ), s) : GSem nD τ sig) ()
      = if d = pr c then (if tsem 4 = s then NT else 0) + (if tsem 3 = s then NO else 0) + (if tsem 0 = s then 1 else 0) else 0 := by
  unfold O₀ Ocopies
  rw [Pi.add_apply, Finsupp.add_apply, Pi.add_apply, Finsupp.add_apply, tally_pr, tally_pr, tally_pr]
  by_cases h : d = pr c <;> simp only [h, and_true, and_false, if_true, if_false]

theorem launch_at (c : Dev nD) (s : SemLoc sig) :
    (tallyOn (((c : Thread nD τ), s) : GSem nD τ sig) (launchCredit (Pipeline.owing O₀) 0 (((c : Thread nD τ), s) : GSem nD τ sig)) : CellTallies nD τ sig Unit)
      = tallyAt (((c : Thread nD τ), s) : GSem nD τ sig) () ((if tsem 4 = s then NT else 0) + (if tsem 3 = s then NO else 0) + (if tsem 0 = s then 1 else 0)) := by
  unfold tallyAt
  refine congrArg _ (Finsupp.ext fun u => ?_)
  cases u
  rw [Pipeline.launchCredit_owing, Finsupp.single_eq_same, Finset.sum_congr rfl fun d _ => owed_at d c s,
    Finset.sum_ite_eq' Finset.univ (pr c) fun _ => _, if_pos (Finset.mem_univ _)]

theorem credit_bar (c : Dev nD) :
    (tallyOn (barCell c) (launchCredit (Pipeline.owing O₀) 0 (barCell c)) : CellTallies nD τ sig Unit) = tallyAt (barCell c) () 1 := by
  rw [launch_at c (.reg barS), if_neg (show tsem 4 ≠ SemLoc.reg barS by decide), if_neg (show tsem 3 ≠ SemLoc.reg barS by decide), if_pos rfl]
theorem credit_recvO (c : Dev nD) :
    (tallyOn (recvOCell c) (launchCredit (Pipeline.owing O₀) 0 (recvOCell c)) : CellTallies nD τ sig Unit) = tallyAt (recvOCell c) () NO := by
  rw [launch_at c (.dma recvO), if_neg (show tsem 4 ≠ SemLoc.dma recvO by decide), if_pos rfl, if_neg (show tsem 0 ≠ SemLoc.dma recvO by decide), zero_add, add_zero]
theorem credit_recvT (c : Dev nD) :
    (tallyOn (recvTCell c) (launchCredit (Pipeline.owing O₀) 0 (recvTCell c)) : CellTallies nD τ sig Unit) = tallyAt (recvTCell c) () NT := by
  rw [launch_at c (.dma recvT), if_pos rfl, if_neg (show tsem 3 ≠ SemLoc.dma recvT by decide), if_neg (show tsem 0 ≠ SemLoc.dma recvT by decide), add_zero, add_zero]

theorem creds_of (c : Dev nD) : (Pipeline.launchCred O₀ c : sProp 𝕄) ⊢ creds c := by
  unfold Pipeline.launchCred creds
  rw [bigSep_univ_at _ (SemLoc.reg barS), credit_bar]
  refine sep_mono_right ?_
  rw [BI.bigSep_erase (show SemLoc.dma recvO ∈ Finset.univ.erase (SemLoc.reg barS) by decide), credit_recvO]
  refine sep_mono_right ?_
  rw [← credit_recvT]
  exact bigSep_elim (show SemLoc.dma recvT ∈ (Finset.univ.erase (SemLoc.reg barS)).erase (SemLoc.dma recvO) by decide)

/-! ## The run -/

abbrev T₀ (c : Dev nD) : sProp 𝕄 := iprop(StableHlo.held (c : Thread nD τ) (Pipeline.ucRefs τ sig) (V0 m c) ∗ carried m c)
abbrev Tₙ (c : Dev nD) : sProp 𝕄 := iprop(StableHlo.held (c : Thread nD τ) (Pipeline.ucRefs τ sig) (V₂ m c) ∗ semVal (barCell c) 0)

/-- A device's holdings at launch beside the protocol's. -/
def plain (c : Dev nD) : sProp 𝕄 :=
  iprop(StableHlo.held (c : Thread nD τ) (Pipeline.ucRefs τ sig) (V0 m c) ∗ creds c ∗ (∃ r, prngReg c r) ∗ ∃ W, owes (c : Thread nD τ) (O₀ c) W)

theorem T₀_of (κ : GSem nD τ sig → ℕ) (c : Dev nD) : iprop(records m κ ∗ (share c ∗ plain m c)) ⊢ T₀ m c := by
  unfold plain T₀ carried Tk
  iintro ⟨#HR, Hs, Hh, Hc, Hp, Ho⟩
  isplitl [Hh]; · iexact Hh
  isplitl [Hs Hc]
  · isplitl [Hs]
    · iapply (ghost_of m κ c)
      isplitr; · iexact HR
      iexact Hs
    iexact Hc
  isplitl [Hp]; · iexact Hp
  iexact Ho

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem deal :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hone (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(plain m c ∗ (semVal (barCell c) 0 ∗ G c)) : sProp 𝕄) := by
    rw [show unscopedBufs c (fun b => m ((c : Thread nD τ).loc b)) = StableHlo.held (c : Thread nD τ) (Pipeline.ucRefs τ sig) (V0 m c) from
      Pipeline.unscopedBufs_held c (V0 m c), unscopedSems_eq]
    unfold plain
    iintro ⟨Hh, Hz, Ho, Hc, Hp, HG⟩
    isplitr [Hz HG]
    · isplitl [Hh]; · iexact Hh
      isplitl [Hc]; · iapply (creds_of c); iexact Hc
      isplitl [Hp]; · iexists (ρ c); iexact Hp
      iexists ∅; iexact Ho
    isplitl [Hz] <;> iassumption
  have hz : bigSep Finset.univ (fun c : Dev nD => (semVal (barCell c) 0 : sProp 𝕄)) ⊢ bigSep awake (fun g => (semVal g 0 : sProp 𝕄)) :=
    Entails.of_eq (bigSep_map (s := Finset.univ) atBar (Φ := fun g : GSem nD τ sig => (semVal g 0 : sProp 𝕄))).symm
  have hat : bigSep awake (fun g => (atPos ER g 0 ∅ 0 : sProp 𝕄)) ⊢ bigSep Finset.univ (fun c : Dev nD => (atPos ER (barCell c) 0 ∅ 0 : sProp 𝕄)) :=
    Entails.of_eq (bigSep_map (s := Finset.univ) atBar (Φ := fun g : GSem nD τ sig => (atPos ER g 0 ∅ 0 : sProp 𝕄)))
  have hop : bigSep asleep (fun g => (openTok ER g : sProp 𝕄))
      ⊢ bigSep Finset.univ (fun c : Dev nD => iprop(openTok ER (sendOCell c) ∗ openTok ER (sendTCell c) ∗ openTok ER (recvOCell c) ∗ openTok ER (recvTCell c))) :=
    Entails.of_eq (by
      rw [bigSep_map, bigSep_univ_prod]
      exact bigSep_congr fun c _ => by
        rw [bigSep_univ_eq_bigSepL [(0 : Fin 4), 1, 2, 3] (by decide) (by decide)]; rfl)
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(plain m c ∗ (semVal (barCell c) 0 ∗ G c)) : sProp 𝕄) from bigSep_mono fun c _ => hone c) $$ H
  ihave H := bigSep_unpair $$ H
  icases H with ⟨HP, H⟩
  ihave H := bigSep_unpair $$ H
  icases H with ⟨Hz, HG⟩
  ihave Hu := (Entails.of_eq (G_all (F := F))) $$ HG
  imod (Rounds.fund_launch ER (talkRd (sums m) (stats m)) cells_disjoint (fun g _ h => h) duties) $$ [Hz Hu] with ⟨%κ, -, #Hinv, #Hr, Hat, Hop, Htok⟩
  · isplitl [Hz]; · iapply hz $$ Hz
    iexact Hu
  imodintro
  iapply (bigSep_with_persistent (R := records m κ) (Φ := fun c => iprop(share c ∗ plain m c)) fun c _ => T₀_of m κ c)
  isplitr
  · unfold records
    isplitr; · iexact Hinv
    iexact Hr
  iapply bigSep_pair
  isplitr [HP]
  · unfold share
    iapply bigSep_pair; isplitl [Hat]; · iapply hat $$ Hat
    iapply bigSep_pair; isplitl [Hop]; · iapply hop $$ Hop
    iapply (toks_dealt (F := F)) $$ Htok
  · iexact HP

theorem only_bar : ∀ sm : SemLoc sig, sm.isScoped .tc = false → sm = .reg barS := by decide

/-- @main is its two calls. -/
def parts : List (Seg (pcfgs (F := F)) adm (pdats m) () defs₀ 𝒱₀ L lv) := [.region (reg0 m), .region (reg1 m)]

set_option backward.isDefEq.respectTransparency.types false in
/-- The run: from any memory with zero counters every weakly fair execution of @main on the four devices terminates, and every
    final state has each device's arguments unchanged, its result at what the communication call stores, and every
    semaphore counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v2) = (dat1 m c).arrAt 2 cfg1.N) ∧ r.2.sem = fun _ => 0) :=
  Pipeline.θ_run_regions_kit_sems (pcfgs (F := F)) adm (pdats m) () cellOf_inj EP defs₀ 𝒱₀ L lv m ρ main (parts m)
    (fun c Q => by
      rewrite [main_chain c, Seg.run_eq_chain,
        show (parts m).map Seg.prog = [
          Prog.lift (.customCall (Pipeline.entry 0) ()),
          Prog.lift (.customCall (Pipeline.entry 1) ()) ] from rfl]
      dsimp (config := { failIfUnchanged := false }) only
      exact .rfl)
    (by simp only [parts, Seg.pipes_region, Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => reg0_pre m c, fun c => (reg0_post m c).trans (reg1_pre m c), fun c => reg1_post m c⟩)
    (hinit := deal m ρ)
    (QY := fun c s => (s.mem ((c : Thread nD τ).loc main_arg0) = V₂ m c main_arg0 ∧ s.mem ((c : Thread nD τ).loc main_arg1) = V₂ m c main_arg1
      ∧ s.mem ((c : Thread nD τ).loc main_arg2) = V₂ m c main_arg2 ∧ s.mem ((c : Thread nD τ).loc main_v2) = V₂ m c main_v2) ∧ s.sem (barCell c) = 0)
    (hfin := fun c s' => by
      dsimp only [Tₙ]
      unfold StableHlo.held
      iintro ⟨⟨Hh, Hz⟩, HSI⟩
      icombine HSI Hz gives %hz
      ihave Hr := (pointsTo_read_all (Pipeline.ucRefs τ sig) (fun b => ((c : Thread nD τ).1, b)) (V₂ m c) s') $$ [Hh HSI]
      · isplitl [Hh] <;> iassumption
      icases Hr with ⟨%h, HSI⟩
      imodintro
      isplitr
      · ipureintro
        have hb (r : Ref sig .tc) (hr : (Proc.devRef .tc r : DevRef τ sig) ∈ Pipeline.ucRefs τ sig) := h (Proc.devRef .tc r) hr
        exact ⟨⟨hb main_arg0 (by decide), hb main_arg1 (by decide), hb main_arg2 (by decide), hb main_v2 (by decide)⟩, by simpa using hz⟩
      · iexact HSI)
    (hQ := fun s h hs => ⟨fun c => by
        obtain ⟨⟨h0, h1, h2, h3⟩, -⟩ := h c
        exact ⟨h0.trans (V₂_arg m c main_arg0 (by decide)), h1.trans (V₂_arg m c main_arg1 (by decide)),
          h2.trans (V₂_arg m c main_arg2 (by decide)), h3.trans (V₂_out m c)⟩,
      sem_eq_zero hs fun c sm hsm => by
        obtain rfl := only_bar sm hsm
        exact (h c).2⟩)

end Cert.KernelIdeal.Talk
-- ==== Proof.Frames.lean ====
/- The frames: each program terminates without fault, leaves its arguments unchanged and every semaphore counter at zero. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch.Run
public import Idealize.ShloMosaic.Lib.Quiescent

@[expose] public section

set_option maxRecDepth 16384

noncomputable section

namespace Cert.Proof

open Idealize.ShloMosaic Idealize.SL.Sem

attribute [local instance] Cert.Kernel.Gen.facts Cert.KernelIdeal.Gen.facts

/-- The kernel as written and the ideal kernel have the same bodies. -/
theorem bodies_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => rfl
  | 1 => rfl

theorem defs_eq : Cert.Kernel.defs (F := Bits) = Cert.KernelIdeal.defs (F := Bits) :=
  congrArg (Pipeline.defs Cert.KernelIdeal.pcfgs) bodies_eq

/-- The kernel as written, over machine words: its text is the ideal program's. -/
theorem frame_kernel : Cert.quiescent_Kernel (hKernel := Cert.Kernel.Gen.facts) := fun m ρ _ => by
  rw [defs_eq]
  exact (θ_run Cert.KernelIdeal.defs _ _).mono (fun r h => ⟨fun c => ⟨(h.1 c).1, (h.1 c).2.1, (h.1 c).2.2.1⟩, h.2⟩)
    (Cert.KernelIdeal.Talk.run_main (F := Bits) m ρ)

/-- The ideal kernel. -/
theorem frame_ideal : Cert.quiescent_KernelIdeal (hKernelIdeal := Cert.KernelIdeal.Gen.facts) := fun m ρ _ =>
  (θ_run Cert.KernelIdeal.defs _ _).mono (fun r h => ⟨fun c => ⟨(h.1 c).1, (h.1 c).2.1, (h.1 c).2.2.1⟩, h.2⟩)
    (Cert.KernelIdeal.Talk.run_main (F := Ideal) m ρ)

/-- The reference. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)
end Cert.Proof

end
-- ==== Proof.Value.Online.lean ====
/- The mathematics of a softmax taken in pieces, over the extended reals. A row of scores `S 0, S 1, …` is summed up by
   its maximum `top S n` over the first `n` of them and by the sums `wsum S W n m`, of `exp (S k - m) * W k`: with the
   weights `W` the values, or `1` for the denominator. Scores are real; values are arbitrary. -/
module

public import Idealize.ShloMosaic.PureOps.Ideal

@[expose] public section

noncomputable section

namespace Cert.Online

open Idealize.ShloMosaic
open scoped BigOperators

/-- A number that is no infinity. -/
def IsReal (x : EReal) : Prop := ∃ r : ℝ, x = (r : EReal)

theorem isReal_of_between {s a M : EReal} (hs : IsReal s) (hM : IsReal M) (h : s ≤ a) (h' : a ≤ M) : IsReal a := by
  obtain ⟨s, rfl⟩ := hs
  obtain ⟨M, rfl⟩ := hM
  induction a with
  | bot => exact absurd h (not_le.2 (EReal.bot_lt_coe s))
  | top => exact absurd h' (not_le.2 (EReal.coe_lt_top M))
  | coe a => exact ⟨a, rfl⟩

theorem IsReal.mul {x y : EReal} (hx : IsReal x) (hy : IsReal y) : IsReal (x * y) := by
  obtain ⟨x, rfl⟩ := hx
  obtain ⟨y, rfl⟩ := hy
  exact ⟨x * y, (EReal.coe_mul x y).symm⟩

theorem IsReal.add {x y : EReal} (hx : IsReal x) (hy : IsReal y) : IsReal (x + y) := by
  obtain ⟨x, rfl⟩ := hx
  obtain ⟨y, rfl⟩ := hy
  exact ⟨x + y, (EReal.coe_add x y).symm⟩

theorem IsReal.sum {ι : Type} (s : Finset ι) (f : ι → EReal) (h : ∀ i ∈ s, IsReal (f i)) : IsReal (∑ i ∈ s, f i) :=
  Finset.sum_induction f IsReal (fun _ _ => IsReal.add) ⟨0, rfl⟩ h

/-- The factor `exp (a - M)` is a real number, not negative. -/
theorem exp_sub_real {a M : EReal} (hM : IsReal M) (h : a ≤ M) : ∃ r : ℝ, 0 ≤ r ∧ Ideal.exp (a - M) = (r : EReal) := by
  obtain ⟨M, rfl⟩ := hM
  induction a with
  | bot => exact ⟨0, le_rfl, by rw [EReal.bot_sub, Ideal.exp_bot]; rfl⟩
  | top => exact absurd h (not_le.2 (EReal.coe_lt_top M))
  | coe a => exact ⟨Real.exp (a - M), (Real.exp_pos _).le, by rw [← EReal.coe_sub, Ideal.exp_coe]⟩

/-- Two factors make one: the old maximum cancels. -/
theorem exp_mul_exp {s a M : EReal} (hs : IsReal s) (hM : IsReal M) (h : s ≤ a) (h' : a ≤ M) :
    Ideal.exp (a - M) * Ideal.exp (s - a) = Ideal.exp (s - M) := by
  obtain ⟨a, rfl⟩ := isReal_of_between hs hM h h'
  obtain ⟨s, rfl⟩ := hs
  obtain ⟨M, rfl⟩ := hM
  rw [← EReal.coe_sub, ← EReal.coe_sub, ← EReal.coe_sub, Ideal.exp_coe, Ideal.exp_coe, Ideal.exp_coe, ← EReal.coe_mul,
    ← Real.exp_add]
  congr 2
  ring

/-- A real factor that is not negative goes into a sum of extended reals. -/
theorem mul_sum_real {ι : Type} (s : Finset ι) (f : ι → EReal) {r : ℝ} (hr : 0 ≤ r) :
    (r : EReal) * ∑ i ∈ s, f i = ∑ i ∈ s, (r : EReal) * f i := by
  classical
  induction s using Finset.induction_on with
  | empty => simp
  | insert i s hi ih =>
    rw [Finset.sum_insert hi, Finset.sum_insert hi,
      EReal.left_distrib_of_nonneg_of_ne_top (EReal.coe_nonneg.2 hr) (EReal.coe_ne_top r), ih]

/-- The maximum of the first `n` scores. -/
def top (S : ℕ → EReal) (n : ℕ) : EReal := (Finset.range n).sup S
/-- The sum of the first `n` weights, each by the exponential of its score below `m`. -/
def wsum (S W : ℕ → EReal) (n : ℕ) (m : EReal) : EReal := ∑ k ∈ Finset.range n, Ideal.exp (S k - m) * W k

theorem le_top {S : ℕ → EReal} {n k : ℕ} (h : k < n) : S k ≤ top S n := Finset.le_sup (f := S) (Finset.mem_range.2 h)

theorem top_isReal {S : ℕ → EReal} (hS : ∀ k, IsReal (S k)) {n : ℕ} (hn : 0 < n) : IsReal (top S n) := by
  obtain ⟨k, -, hk⟩ := Finset.exists_mem_eq_sup (Finset.range n) ⟨0, Finset.mem_range.2 hn⟩ S
  rw [top, hk]
  exact hS k

theorem top_zero (S : ℕ → EReal) : top S 0 = ⊥ := by simp [top]
theorem wsum_zero (S W : ℕ → EReal) (m : EReal) : wsum S W 0 m = 0 := by simp [wsum]

theorem top_add (S : ℕ → EReal) (n j : ℕ) : top S (n + j) = max (top S n) (top (fun r => S (n + r)) j) := by
  apply le_antisymm
  · refine Finset.sup_le fun k hk => ?_
    rcases lt_or_ge k n with h | h
    · exact le_max_of_le_left (le_top h)
    · obtain ⟨r, rfl⟩ := Nat.exists_eq_add_of_le h
      have hr : r < j := by have := Finset.mem_range.1 hk; omega
      exact le_max_of_le_right (le_top (S := fun r => S (n + r)) hr)
  · refine max_le (Finset.sup_le fun k hk => le_top ?_) (Finset.sup_le fun k hk => le_top (S := S) ?_)
    · have := Finset.mem_range.1 hk; omega
    · have := Finset.mem_range.1 hk; omega

theorem wsum_add (S W : ℕ → EReal) (n j : ℕ) (m : EReal) :
    wsum S W (n + j) m = wsum S W n m + wsum (fun r => S (n + r)) (fun r => W (n + r)) j m :=
  Finset.sum_range_add _ n j

/-- A sum taken below the old maximum, brought below a new one. -/
theorem wsum_rescale {S : ℕ → EReal} (hS : ∀ k, IsReal (S k)) (W : ℕ → EReal) (n : ℕ) {M : EReal} (hM : IsReal M)
    (h : top S n ≤ M) : Ideal.exp (top S n - M) * wsum S W n (top S n) = wsum S W n M := by
  obtain ⟨r, hr, e⟩ := exp_sub_real hM h
  rw [wsum, e, mul_sum_real _ _ hr]
  refine Finset.sum_congr rfl fun k hk => ?_
  rw [← e, ← mul_assoc, exp_mul_exp (hS k) hM (le_top (Finset.mem_range.1 hk)) h]

/-- The denominator is a positive real. -/
theorem wsum_one_pos {S : ℕ → EReal} (hS : ∀ k, IsReal (S k)) {n : ℕ} (hn : 0 < n) {M : EReal} (hM : IsReal M) :
    ∃ r : ℝ, 0 < r ∧ wsum S (fun _ => 1) n M = (r : EReal) := by
  obtain ⟨M, rfl⟩ := hM
  choose s hs using hS
  refine ⟨∑ k ∈ Finset.range n, Real.exp (s k - M),
    Finset.sum_pos (fun k _ => Real.exp_pos _) ⟨0, Finset.mem_range.2 hn⟩, ?_⟩
  have coe : ∀ t : Finset ℕ, ((∑ k ∈ t, Real.exp (s k - M) : ℝ) : EReal) = ∑ k ∈ t, ((Real.exp (s k - M) : ℝ) : EReal) := by
    intro t
    induction t using Finset.induction_on with
    | empty => simp
    | insert i t hi ih => rw [Finset.sum_insert hi, Finset.sum_insert hi, EReal.coe_add, ih]
  rw [coe, wsum]
  refine Finset.sum_congr rfl fun k _ => ?_
  rw [hs k, mul_one, ← EReal.coe_sub, Ideal.exp_coe]

/-- The softmax's weighted mean over `n` scores: the numerator by the denominator. -/
def mean (S W : ℕ → EReal) (n : ℕ) : EReal := Ideal.div (wsum S W n (top S n)) (wsum S (fun _ => 1) n (top S n))

/-- Two pieces merged: both brought below the greater maximum, added, and divided. -/
theorem merge_eq {S : ℕ → EReal} (hS : ∀ k, IsReal (S k)) (W : ℕ → EReal) {a b : ℕ} (ha : 0 < a) (M : EReal)
    (hM : M = max (top S a) (top (fun r => S (a + r)) b)) :
    Ideal.div (Ideal.exp (top S a - M) * wsum S W a (top S a)
        + Ideal.exp (top (fun r => S (a + r)) b - M)
          * wsum (fun r => S (a + r)) (fun r => W (a + r)) b (top (fun r => S (a + r)) b))
      (Ideal.exp (top S a - M) * wsum S (fun _ => 1) a (top S a)
        + Ideal.exp (top (fun r => S (a + r)) b - M)
          * wsum (fun r => S (a + r)) (fun _ => 1) b (top (fun r => S (a + r)) b)) = mean S W (a + b) := by
  have hM' : M = top S (a + b) := hM.trans (top_add S a b).symm
  have hr : IsReal M := hM' ▸ top_isReal hS (by omega)
  have h1 : top S a ≤ M := hM ▸ le_max_left _ _
  have h2 : top (fun r => S (a + r)) b ≤ M := hM ▸ le_max_right _ _
  have hS' : ∀ k, IsReal (S (a + k)) := fun k => hS (a + k)
  rw [wsum_rescale hS W a hr h1, wsum_rescale hS _ a hr h1, wsum_rescale (S := fun r => S (a + r)) hS' _ b hr h2,
    wsum_rescale (S := fun r => S (a + r)) hS' _ b hr h2, mean, ← hM', wsum_add S W a b, wsum_add S (fun _ => 1) a b]

/-- The textbook order: each exponential divided first, then the weights summed. -/
theorem mean_eq {S : ℕ → EReal} (hS : ∀ k, IsReal (S k)) (W : ℕ → EReal) {n : ℕ} (hn : 0 < n) :
    ∑ k ∈ Finset.range n, W k * Ideal.div (Ideal.exp (S k - top S n)) (wsum S (fun _ => 1) n (top S n)) = mean S W n := by
  obtain ⟨r, hr, e⟩ := wsum_one_pos hS hn (top_isReal hS hn)
  have hr' : 0 ≤ 1 / r := by positivity
  rw [mean, e, Ideal.div_coe hr.ne', mul_comm, wsum, mul_sum_real _ _ hr']
  refine Finset.sum_congr rfl fun k _ => ?_
  rw [Ideal.div_coe hr.ne']
  ac_rfl

/-- The maximum as a fold over a block's positions. -/
theorem fold_eq_top (S : ℕ → EReal) (n : ℕ) : (Finset.univ : Finset (Fin n)).fold max ⊥ (fun r => S r.val) = top S n := by
  rw [top]
  change Finset.univ.sup (fun r : Fin n => S r.val) = _
  apply le_antisymm
  · exact Finset.sup_le fun r _ => le_top (S := S) r.isLt
  · exact Finset.sup_le fun k hk => Finset.le_sup (f := fun r : Fin n => S r.val) (Finset.mem_univ ⟨k, Finset.mem_range.1 hk⟩)

/-- A sum over a block's positions. -/
theorem sum_eq_wsum (S W : ℕ → EReal) (n : ℕ) (m : EReal) : ∑ r : Fin n, Ideal.exp (S r.val - m) * W r.val = wsum S W n m :=
  (Finset.sum_range fun k => Ideal.exp (S k - m) * W k).symm

/-- One block more: the maximum and the two kinds of sum after `n + j` scores from those after `n`. -/
theorem step_top (S : ℕ → EReal) (n j : ℕ) :
    max (top S n) ((Finset.univ : Finset (Fin j)).fold max ⊥ fun r => S (n + r.val)) = top S (n + j) := by
  rw [fold_eq_top fun r => S (n + r), top_add]

theorem step_wsum {S : ℕ → EReal} (hS : ∀ k, IsReal (S k)) (W : ℕ → EReal) (n : ℕ) {j : ℕ} (hj : 0 < j) :
    Ideal.exp (top S n - top S (n + j)) * wsum S W n (top S n)
      + ∑ r : Fin j, Ideal.exp (S (n + r.val) - top S (n + j)) * W (n + r.val) = wsum S W (n + j) (top S (n + j)) := by
  have h : top S n ≤ top S (n + j) := top_add S n j ▸ le_max_left _ _
  rw [wsum_rescale hS W n (top_isReal hS (by omega)) h, sum_eq_wsum (fun r => S (n + r)) (fun r => W (n + r)), ← wsum_add]

end Cert.Online

end
-- ==== Proof.Pre.lean ====
/- The precondition, read: every query and every key of a device is a real number; and the claims that take it beside the
   frames. -/
module

public import proofs.«01_k».proof.Proof.Frames
public import proofs.«01_k».proof.Proof.Value.Online
public import Idealize.ShloMosaic.Lib.ReduceAll

@[expose] public section

set_option maxRecDepth 16384

noncomputable section

namespace Cert.Proof

open Idealize.ShloMosaic Cert.Online

/-- The side conditions of the precondition's operations. -/
instance pre_kernel_facts : Cert.Pre_finite_queries_keys_KernelIdeal.Facts where
  bcast_S_S4x32x8x128 := by decide
  reducesTo_S4x32x8x128_S_d0_1_2_3 := by decide
  h_S_ := by decide
  bcast_S_S4x4096x8x128 := by decide
  reducesTo_S4x4096x8x128_S_d0_1_2_3 := by decide
instance pre_reference_facts : Cert.Pre_finite_queries_keys_ReferenceIdeal.Facts where
  bcast_S_S4x32x8x128 := by decide
  reducesTo_S4x32x8x128_S_d0_1_2_3 := by decide
  h_S_ := by decide
  bcast_S_S4x8192x8x128 := by decide
  reducesTo_S4x8192x8x128_S_d0_1_2_3 := by decide

theorem frame_ideal_pre : Cert.quiescent_KernelIdeal_pre_finite_queries_keys_KernelIdeal (hKernelIdeal := Cert.KernelIdeal.Gen.facts) := fun m ρ _ =>
  frame_ideal m ρ trivial

theorem frame_reference_pre :
    Cert.quiescent_ReferenceIdeal_pre_finite_queries_keys_ReferenceIdeal (hReferenceIdeal := Cert.ReferenceIdeal.Gen.facts) := fun m ρ _ =>
  frame_reference m ρ trivial

/-- An extended real whose absolute value compares below the float word of infinity is a real number. -/
theorem isReal_of_abs_lt {x : EReal} (h : Ideal.cmp .olt (max x (-x)) (Ideal.ofBits .f32 0x7F800000#32) = 1#1) : IsReal x := by
  rw [show Ideal.ofBits .f32 0x7F800000#32 = ⊤ by simp [Ideal.ofBits, Ideal.ieee]] at h
  induction x with
  | bot => simp [Ideal.cmp] at h
  | top => simp [Ideal.cmp] at h
  | coe r => exact ⟨r, rfl⟩

instance : Subsingleton Cert.Pre_finite_queries_keys_KernelIdeal.S_.Idx := ⟨fun _ _ => funext fun a => a.elim0⟩

theorem isReal_of_pre (Q : FVec Ideal Cert.Pre_finite_queries_keys_KernelIdeal.S4x32x8x128 .f32)
    (K V : FVec Ideal Cert.Pre_finite_queries_keys_KernelIdeal.S4x4096x8x128 .f32)
    (h : Cert.Pre_finite_queries_keys_KernelIdeal.fn (F := Ideal) Q K V = fun _ => 1#1) : (∀ i, IsReal (Q i)) ∧ ∀ i, IsReal (K i) := by
  have h0 := congrFun h (fun a => a.elim0)
  obtain ⟨hq, hk⟩ := IntOp.andi_eq_one.mp h0
  exact ⟨fun i => isReal_of_abs_lt (Host.reduce_andi_all _ _ _ _ _ hq i), fun i => isReal_of_abs_lt (Host.reduce_andi_all _ _ _ _ _ hk i)⟩

end Cert.Proof

end
-- ==== Proof.Value.Reading.lean ====
/- What the two calls' operations compute, read at an index over the extended reals. -/
module

public import proofs.«01_k».proof.Proof.Flash.State
public import proofs.«01_k».proof.Proof.Talk.Body
public import proofs.«01_k».proof.Proof.Value.Online
public import Idealize.ShloMosaic.Lib.Pointwise

@[expose] public section

set_option maxRecDepth 16384

noncomputable section

namespace Cert.KernelIdeal.Value

open Idealize.ShloMosaic Cert.KernelIdeal Cert.KernelIdeal.Gen Cert.KernelIdeal.Flash Cert.Online
open scoped BigOperators

/-- The factor on the scores, 1 / √128 as a float word. -/
def scale : EReal := Ideal.ofBits .f32 0x3DB504F3#32

theorem ofBits_neg_inf : Ideal.ofBits .f32 0xFF800000#32 = ⊥ := by simp [Ideal.ofBits, Ideal.ieee]
theorem ofBits_inf : Ideal.ofBits .f32 0x7F800000#32 = ⊤ := by simp [Ideal.ofBits, Ideal.ieee]

/-! ## One head's block -/

theorem score_apply (x : Vec Ideal S1x32x1x128 .f32) (y : Vec Ideal S1x512x1x128 .f32) (q : Fin 32) (r : Fin 512) :
    k0_pay28 (F := Ideal) x y (ix2 q r) = (∑ d : Fin 128, x (ix4 0 q 0 d) * y (ix4 0 r 0 d)) * scale := by
  pointwise [k0_pay28]
  rfl

theorem max_apply (x : Vec Ideal S1x32x1x128 .f32) (y : Vec Ideal S1x512x1x128 .f32) (m : Vec Ideal S32x1 .f32) (q : Fin 32) :
    k0_pay29 (F := Ideal) x y m (ix2 q 0)
      = max (m (ix2 q 0)) ((Finset.univ : Finset (Fin 512)).fold max ⊥ fun r => k0_pay28 (F := Ideal) x y (ix2 q r)) := by
  pointwise [k0_pay29]
  rw [ofBits_neg_inf]

theorem sum_apply (x : Vec Ideal S1x32x1x128 .f32) (y : Vec Ideal S1x512x1x128 .f32) (m l : Vec Ideal S32x1 .f32) (q : Fin 32) :
    k0_pay32 (F := Ideal) x y m l (ix2 q 0)
      = Ideal.exp (m (ix2 q 0) - k0_pay29 (F := Ideal) x y m (ix2 q 0)) * l (ix2 q 0)
        + ∑ r : Fin 512, Ideal.exp (k0_pay28 (F := Ideal) x y (ix2 q r) - k0_pay29 (F := Ideal) x y m (ix2 q 0)) := by
  pointwise [k0_pay32, k0_pay30, k0_pay31]

theorem acc_apply (x : Vec Ideal S1x32x1x128 .f32) (y z : Vec Ideal S1x512x1x128 .f32) (m : Vec Ideal S32x1 .f32)
    (a : Vec Ideal S32x128 .f32) (q : Fin 32) (d : Fin 128) :
    k0_pay34 (F := Ideal) (k0_pay33 (F := Ideal) x y z m a) (ix2 q d)
      = Ideal.exp (m (ix2 q 0) - k0_pay29 (F := Ideal) x y m (ix2 q 0)) * a (ix2 q d)
        + ∑ r : Fin 512, Ideal.exp (k0_pay28 (F := Ideal) x y (ix2 q r) - k0_pay29 (F := Ideal) x y m (ix2 q 0)) * z (ix4 0 r 0 d) := by
  pointwise [k0_pay34, k0_pay33, k0_pay30, k0_pay31]

theorem mx_rep_apply (m : Vec Ideal S32x1 .f32) (q : Fin 32) (d : Fin 128) : k0_pay35 (F := Ideal) m (ix2 q d) = m (ix2 q 0) := by
  pointwise [k0_pay35]
theorem sm_rep_apply (m : Vec Ideal S32x1 .f32) (q : Fin 32) (d : Fin 128) : k0_pay36 (F := Ideal) m (ix2 q d) = m (ix2 q 0) := by
  pointwise [k0_pay36]

/-! ## Heads of blocks and bands of planes -/

theorem qOf_apply (h : Fin 8) (x : Vec Ideal S1x32x8x128 .f32) (q : Fin 32) (d : Fin 128) :
    qOf h x (ix4 0 q 0 d) = x (ix4 0 q h d) := by
  pointwise [qOf]
theorem kOf_apply (h : Fin 8) (x : Vec Ideal S1x512x8x128 .f32) (r : Fin 512) (d : Fin 128) :
    kOf h x (ix4 0 r 0 d) = x (ix4 0 r h d) := by
  pointwise [kOf]
theorem colOf_apply (h : Fin 8) (x : Vec Ideal S256x128 .f32) (q : Fin 32) : colOf h x (ix2 q 0) = x (ix2 (bandRow h q) 0) := by
  pointwise [colOf]
  rfl
theorem bandOf_apply (h : Fin 8) (x : Vec Ideal S256x128 .f32) (q : Fin 32) (d : Fin 128) :
    bandOf h x (ix2 q d) = x (ix2 (bandRow h q) d) := by
  pointwise [bandOf]
  rfl

theorem bands_apply (f : Fin 8 → Vec Ideal S32x128 .f32) (h : Fin 8) (q : Fin 32) (d : Fin 128) :
    bands f (ix2 (bandRow h q) d) = f h (ix2 q d) := by
  have hh : (⟨(bandRow h q).val / 32, by have := (bandRow h q).isLt; omega⟩ : Fin 8) = h :=
    Fin.ext (by show (32 * h.val + q.val) / 32 = _; omega)
  have hq : (⟨(bandRow h q).val % 32, Nat.mod_lt _ (by decide)⟩ : Fin 32) = q :=
    Fin.ext (by show (32 * h.val + q.val) % 32 = _; omega)
  show f ⟨(bandRow h q).val / 32, _⟩ (ix2 ⟨(bandRow h q).val % 32, _⟩ d) = _
  rw [hh, hq]

theorem init_mx_apply (i : S256x128.Idx) : k0_pay25 (F := Ideal) i = ⊥ := by
  pointwise [k0_pay25]
  exact ofBits_neg_inf
theorem init_sm_apply (i : S256x128.Idx) : k0_pay26 (F := Ideal) i = 0 := by
  pointwise [k0_pay26]
theorem init_acc_apply (i : S256x128.Idx) : k0_pay27 (F := Ideal) i = 0 := by
  pointwise [k0_pay27]

theorem outO_apply (s : Planes Ideal) (q : Fin 32) (h : Fin 8) (d : Fin 128) : outO s (ix4 0 q h d) = bandOf h s.acc (ix2 q d) := by
  pointwise [outO, tileO, k0_pay4]
theorem outS_max_apply (s : Planes Ideal) (q : Fin 32) (h : Fin 8) : outS s (ix4 0 q h 0) = colOf h s.mx (ix2 q 0) := by
  pointwise [outS, tileS, k0_pay23]
theorem outS_sum_apply (s : Planes Ideal) (q : Fin 32) (h : Fin 8) : outS s (ix4 0 q h 1) = colOf h s.sm (ix2 q 0) := by
  pointwise [outS, tileS, k0_pay23]

/-! ## The merge -/

theorem merge_apply (x x' : Vec Ideal S4x32x8x128 .f32) (y y' : Vec Ideal S4x32x8x2 .f32) (b : Fin 4) (q : Fin 32) (h : Fin 8)
    (d : Fin 128) :
    Talk.merge x y x' y' (ix4 b q h d)
      = Ideal.div
          (Ideal.exp (y (ix4 b q h 0) - max (y (ix4 b q h 0)) (y' (ix4 b q h 0))) * x (ix4 b q h d)
            + Ideal.exp (y' (ix4 b q h 0) - max (y (ix4 b q h 0)) (y' (ix4 b q h 0))) * x' (ix4 b q h d))
          (Ideal.exp (y (ix4 b q h 0) - max (y (ix4 b q h 0)) (y' (ix4 b q h 0))) * y (ix4 b q h 1)
            + Ideal.exp (y' (ix4 b q h 0) - max (y (ix4 b q h 0)) (y' (ix4 b q h 0))) * y' (ix4 b q h 1)) := by
  pointwise [Talk.merge, k1_pay1, k1_pay2, k1_pay3, k1_pay4, k1_pay5, k1_pay6, Talk.maxOf, Talk.sumOf]

end Cert.KernelIdeal.Value

end
-- ==== Proof.Value.Steps.lean ====
/- The planes of the flash-decoding call sum up a prefix of the scores: one block more of keys takes the sums over `n`
   scores to the sums over `n + 512`. -/
module

public import proofs.«01_k».proof.Proof.Value.Reading

@[expose] public section

set_option maxRecDepth 16384

noncomputable section

namespace Cert.KernelIdeal.Value

open Idealize.ShloMosaic Cert.KernelIdeal Cert.KernelIdeal.Gen Cert.KernelIdeal.Flash Cert.Online
open scoped BigOperators

/-- The planes hold, for every head and query, the maximum of the first `n` scores and the two sums below it. -/
structure Sums (S : Fin 8 → Fin 32 → ℕ → EReal) (W : Fin 8 → Fin 128 → ℕ → EReal) (n : ℕ) (s : Planes Ideal) : Prop where
  mx : ∀ h q, colOf h s.mx (ix2 q 0) = top (S h q) n
  sm : ∀ h q, colOf h s.sm (ix2 q 0) = wsum (S h q) (fun _ => 1) n (top (S h q) n)
  acc : ∀ h q d, bandOf h s.acc (ix2 q d) = wsum (S h q) (W h d) n (top (S h q) n)

theorem sums_init (S : Fin 8 → Fin 32 → ℕ → EReal) (W : Fin 8 → Fin 128 → ℕ → EReal) : Sums S W 0 Planes.init where
  mx h q := by rw [colOf_apply, top_zero]; exact init_mx_apply (ix2 (bandRow h q) 0)
  sm h q := by rw [colOf_apply, wsum_zero]; exact init_sm_apply (ix2 (bandRow h q) 0)
  acc h q d := by rw [bandOf_apply, wsum_zero]; exact init_acc_apply (ix2 (bandRow h q) d)

section
variable {S : Fin 8 → Fin 32 → ℕ → EReal} {W : Fin 8 → Fin 128 → ℕ → EReal} {n : ℕ}
  (x0 : Vec Ideal S1x32x8x128 .f32) (x1 x2 : Vec Ideal S1x512x8x128 .f32) {s : Planes Ideal}

/-- A block's scores are the next 512 of the row. -/
theorem block_scores
    (hx : ∀ h q (r : Fin 512), (∑ d : Fin 128, x0 (ix4 0 q h d) * x1 (ix4 0 r h d)) * scale = S h q (n + r.val))
    (h : Fin 8) (q : Fin 32) (r : Fin 512) : k0_pay28 (F := Ideal) (qOf h x0) (kOf h x1) (ix2 q r) = S h q (n + r.val) := by
  rw [score_apply, ← hx]
  simp only [qOf_apply, kOf_apply]

theorem block_max (hs : Sums S W n s)
    (hx : ∀ h q (r : Fin 512), (∑ d : Fin 128, x0 (ix4 0 q h d) * x1 (ix4 0 r h d)) * scale = S h q (n + r.val))
    (h : Fin 8) (q : Fin 32) :
    k0_pay29 (F := Ideal) (qOf h x0) (kOf h x1) (colOf h s.mx) (ix2 q 0) = top (S h q) (n + 512) := by
  rw [max_apply, hs.mx, ← step_top]
  simp only [block_scores x0 x1 hx]

/-- One block more. -/
theorem sums_step (hS : ∀ h q k, IsReal (S h q k)) (hs : Sums S W n s)
    (hx : ∀ h q (r : Fin 512), (∑ d : Fin 128, x0 (ix4 0 q h d) * x1 (ix4 0 r h d)) * scale = S h q (n + r.val))
    (hw : ∀ h (d : Fin 128) (r : Fin 512), x2 (ix4 0 r h d) = W h d (n + r.val)) :
    Sums S W (n + 512) (s.step x0 x1 x2) where
  mx h q := by
    rw [colOf_apply]
    show bands (mxBand x0 x1 s) (ix2 (bandRow h q) 0) = _
    rw [bands_apply, mxBand, mx_rep_apply, block_max x0 x1 hs hx]
  sm h q := by
    rw [colOf_apply]
    show bands (smBand x0 x1 s) (ix2 (bandRow h q) 0) = _
    rw [bands_apply, smBand, sm_rep_apply, sum_apply, block_max x0 x1 hs hx, hs.mx, hs.sm, ← step_wsum (hS h q) (fun _ => 1) n (by decide : 0 < 512)]
    simp only [block_scores x0 x1 hx, mul_one]
  acc h q d := by
    rw [bandOf_apply]
    show bands (accBand x0 x1 x2 s) (ix2 (bandRow h q) d) = _
    rw [bands_apply, accBand, acc_apply, block_max x0 x1 hs hx, hs.mx, hs.acc, ← step_wsum (hS h q) (W h d) n (by decide : 0 < 512)]
    simp only [block_scores x0 x1 hx, kOf_apply, hw]

end

end Cert.KernelIdeal.Value

end
-- ==== Proof.Value.Blocks.lean ====
/- The blocks of the flash-decoding call's windows, read at an index of their arrays, and the two arrays it writes. -/
module

public import proofs.«01_k».proof.Proof.Launch.Regions
public import proofs.«01_k».proof.Proof.Value.Steps

@[expose] public section

set_option maxRecDepth 16384

noncomputable section

namespace Cert.KernelIdeal.Value

open Idealize.ShloMosaic Idealize.ShloMosaic.TcCoe Cert.KernelIdeal Cert.KernelIdeal.Gen Cert.KernelIdeal.Flash Cert.KernelIdeal.Talk Cert.Online
open Idealize.ShloMosaic.Pipeline (Dat)

variable (m : (ℓ : Loc nD τ sig) → Buf (Elt Ideal) ℓ)

/-- The batch of a point, and the keys of its block. -/
def batchOf (t : Fin cfg0.N) : Fin 4 := ⟨t.val / 8, by have : t.val < 32 := Nat.lt_of_lt_of_eq t.isLt N_0; omega⟩
def keyOf (t : Fin cfg0.N) (r : Fin 512) : Fin 4096 := ⟨512 * (t.val % 8) + r.val, by have := r.isLt; omega⟩

theorem index_q : ∀ t : Fin cfg0.N, win0_0.index t 0 = t.val / 8 ∧ win0_0.index t 1 = 0 ∧ win0_0.index t 2 = 0 ∧ win0_0.index t 3 = 0 := by
  decide +kernel
theorem index_k : ∀ t : Fin cfg0.N, win0_1.index t 0 = t.val / 8 ∧ win0_1.index t 1 = t.val % 8 ∧ win0_1.index t 2 = 0 ∧ win0_1.index t 3 = 0 := by
  decide +kernel
theorem index_v : ∀ t : Fin cfg0.N, win0_2.index t 0 = t.val / 8 ∧ win0_2.index t 1 = t.val % 8 ∧ win0_2.index t 2 = 0 ∧ win0_2.index t 3 = 0 := by
  decide +kernel
theorem index_o : ∀ t : Fin cfg0.N, win0_3.index t 0 = t.val / 8 ∧ win0_3.index t 1 = 0 ∧ win0_3.index t 2 = 0 ∧ win0_3.index t 3 = 0 := by
  decide +kernel
theorem index_s : ∀ t : Fin cfg0.N, win0_4.index t 0 = t.val / 8 ∧ win0_4.index t 1 = 0 ∧ win0_4.index t 2 = 0 ∧ win0_4.index t 3 = 0 := by
  decide +kernel

theorem qBlk_apply (c : Dev nD) (t : Fin cfg0.N) (q : Fin 32) (h : Fin 8) (d : Fin 128) :
    qBlk m c t (ix4 0 q h d) = m ((c : Thread nD τ).loc main_arg0) (ix4 (batchOf t) q h d) := by
  show m ((c : Thread nD τ).loc main_arg0) (((cfg0.win 0).blk t).view.emb (ix4 0 q h d)) = _
  refine congrArg _ (funext fun a => Fin.ext ?_)
  obtain ⟨i0, i1, i2, i3⟩ := index_q t
  match a with
  | ⟨0, _⟩ => show win0_0.index t 0 * 1 + 1 * 0 = t.val / 8; omega
  | ⟨1, _⟩ => show win0_0.index t 1 * 32 + 1 * q.val = q.val; omega
  | ⟨2, _⟩ => show win0_0.index t 2 * 8 + 1 * h.val = h.val; omega
  | ⟨3, _⟩ => show win0_0.index t 3 * 128 + 1 * d.val = d.val; omega

theorem kBlk_apply (c : Dev nD) (t : Fin cfg0.N) (r : Fin 512) (h : Fin 8) (d : Fin 128) :
    kBlk m c t (ix4 0 r h d) = m ((c : Thread nD τ).loc main_arg1) (ix4 (batchOf t) (keyOf t r) h d) := by
  show m ((c : Thread nD τ).loc main_arg1) (((cfg0.win 1).blk t).view.emb (ix4 0 r h d)) = _
  refine congrArg _ (funext fun a => Fin.ext ?_)
  obtain ⟨i0, i1, i2, i3⟩ := index_k t
  match a with
  | ⟨0, _⟩ => show win0_1.index t 0 * 1 + 1 * 0 = t.val / 8; omega
  | ⟨1, _⟩ => show win0_1.index t 1 * 512 + 1 * r.val = 512 * (t.val % 8) + r.val; omega
  | ⟨2, _⟩ => show win0_1.index t 2 * 8 + 1 * h.val = h.val; omega
  | ⟨3, _⟩ => show win0_1.index t 3 * 128 + 1 * d.val = d.val; omega

theorem vBlk_apply (c : Dev nD) (t : Fin cfg0.N) (r : Fin 512) (h : Fin 8) (d : Fin 128) :
    vBlk m c t (ix4 0 r h d) = m ((c : Thread nD τ).loc main_arg2) (ix4 (batchOf t) (keyOf t r) h d) := by
  show m ((c : Thread nD τ).loc main_arg2) (((cfg0.win 2).blk t).view.emb (ix4 0 r h d)) = _
  refine congrArg _ (funext fun a => Fin.ext ?_)
  obtain ⟨i0, i1, i2, i3⟩ := index_v t
  match a with
  | ⟨0, _⟩ => show win0_2.index t 0 * 1 + 1 * 0 = t.val / 8; omega
  | ⟨1, _⟩ => show win0_2.index t 1 * 512 + 1 * r.val = 512 * (t.val % 8) + r.val; omega
  | ⟨2, _⟩ => show win0_2.index t 2 * 8 + 1 * h.val = h.val; omega
  | ⟨3, _⟩ => show win0_2.index t 3 * 128 + 1 * d.val = d.val; omega

/-! ## The arrays written -/

/-- The weighted values and the statistics of every batch: the planes after the batch's last block of keys. -/
def sumsArr (c : Dev nD) : Vec Ideal S4x32x8x128 .f32 := fun i =>
  outO (planesAt m c (8 * (i 0).val + 7)) (ix4 0 (i 1) (i 2) (i 3))
def statsArr (c : Dev nD) : Vec Ideal S4x32x8x2 .f32 := fun i =>
  outS (planesAt m c (8 * (i 0).val + 7)) (ix4 0 (i 1) (i 2) (i 3))

theorem flushed_o (c : Dev nD) (t : Fin cfg0.N) (hf : (cfg0.win 3).flush t = true) :
    (datF m c).flushed 3 t = ((cfg0.win 3).blk t).view.read (Elt Ideal) (sumsArr m c) := by
  show (cfg0.win 3).cut (grid0.coords t) ((datF m c).after 3 t) = _
  rw [datF, after3]
  obtain ⟨i0, i1, i2, i3⟩ := index_o t
  have h7 : t.val % 8 = 7 := (flush0_3 t).mp hf
  funext j
  have hj : (j 0).val < 1 := (j 0).isLt
  show outO (planesAt m c t.val) j = sumsArr m c (((cfg0.win 3).blk t).view.emb j)
  have e0 : ((((cfg0.win 3).blk t).view.emb j) 0).val = t.val / 8 := by
    show win0_3.index t 0 * 1 + 1 * (j 0).val = _; omega
  unfold sumsArr
  rw [e0, show 8 * (t.val / 8) + 7 = t.val by omega]
  refine congrArg _ (funext fun a => Fin.ext ?_)
  match a with
  | ⟨0, _⟩ => show (j 0).val = 0; omega
  | ⟨1, _⟩ => show (j 1).val = win0_3.index t 1 * 32 + 1 * (j 1).val; omega
  | ⟨2, _⟩ => show (j 2).val = win0_3.index t 2 * 8 + 1 * (j 2).val; omega
  | ⟨3, _⟩ => show (j 3).val = win0_3.index t 3 * 128 + 1 * (j 3).val; omega

theorem flushed_s (c : Dev nD) (t : Fin cfg0.N) (hf : (cfg0.win 4).flush t = true) :
    (datF m c).flushed 4 t = ((cfg0.win 4).blk t).view.read (Elt Ideal) (statsArr m c) := by
  show (cfg0.win 4).cut (grid0.coords t) ((datF m c).after 4 t) = _
  rw [datF, after4]
  obtain ⟨i0, i1, i2, i3⟩ := index_s t
  have h7 : t.val % 8 = 7 := (flush0_4 t).mp hf
  funext j
  have hj : (j 0).val < 1 := (j 0).isLt
  show outS (planesAt m c t.val) j = statsArr m c (((cfg0.win 4).blk t).view.emb j)
  have e0 : ((((cfg0.win 4).blk t).view.emb j) 0).val = t.val / 8 := by
    show win0_4.index t 0 * 1 + 1 * (j 0).val = _; omega
  unfold statsArr
  rw [e0, show 8 * (t.val / 8) + 7 = t.val by omega]
  refine congrArg _ (funext fun a => Fin.ext ?_)
  match a with
  | ⟨0, _⟩ => show (j 0).val = 0; omega
  | ⟨1, _⟩ => show (j 1).val = win0_4.index t 1 * 32 + 1 * (j 1).val; omega
  | ⟨2, _⟩ => show (j 2).val = win0_4.index t 2 * 8 + 1 * (j 2).val; omega
  | ⟨3, _⟩ => show (j 3).val = win0_4.index t 3 * 2 + 1 * (j 3).val; omega

/-- The last point of a batch. -/
def lastOf (b : Fin 4) : Fin cfg0.N := ⟨8 * b.val + 7, by rw [show cfg0.N = 32 from N_0]; omega⟩

theorem xsize_o : ∀ (b : Fin 4) a, win0_3.xsize (grid0.coords (lastOf b)) a = S1x32x8x128.size a := by decide +kernel
theorem xsize_s : ∀ (b : Fin 4) a, win0_4.xsize (grid0.coords (lastOf b)) a = S1x32x8x2.size a := by decide +kernel

theorem cover_o (i : S4x32x8x128.Idx) : i ∈ ((cfg0.win 3).blk (lastOf (i 0))).view.set := by
  show i ∈ ((View.whole main_v1_0).slice (win0_3.rect (lastOf (i 0)))).set
  rw [View.set_slice_whole, Rect.mem_set_unit]
  obtain ⟨e0, e1, e2, e3⟩ := index_o (lastOf (i 0))
  have h0 : (lastOf (i 0)).val = 8 * (i 0).val + 7 := rfl
  have l1 : (i 1 : Nat) < 32 := (i 1).isLt
  have l2 : (i 2 : Nat) < 8 := (i 2).isLt
  have l3 : (i 3 : Nat) < 128 := (i 3).isLt
  intro a
  show win0_3.index (lastOf (i 0)) a * win0_3.size a ≤ (i a : Nat) ∧ (i a : Nat) < win0_3.index (lastOf (i 0)) a * win0_3.size a + win0_3.xsize (grid0.coords (lastOf (i 0))) a
  rw [xsize_o (i 0)]
  match a with
  | ⟨0, _⟩ => show win0_3.index (lastOf (i 0)) 0 * 1 ≤ (i 0 : Nat) ∧ (i 0 : Nat) < win0_3.index (lastOf (i 0)) 0 * 1 + 1; omega
  | ⟨1, _⟩ => show win0_3.index (lastOf (i 0)) 1 * 32 ≤ (i 1 : Nat) ∧ (i 1 : Nat) < win0_3.index (lastOf (i 0)) 1 * 32 + 32; omega
  | ⟨2, _⟩ => show win0_3.index (lastOf (i 0)) 2 * 8 ≤ (i 2 : Nat) ∧ (i 2 : Nat) < win0_3.index (lastOf (i 0)) 2 * 8 + 8; omega
  | ⟨3, _⟩ => show win0_3.index (lastOf (i 0)) 3 * 128 ≤ (i 3 : Nat) ∧ (i 3 : Nat) < win0_3.index (lastOf (i 0)) 3 * 128 + 128; omega

theorem cover_s (i : S4x32x8x2.Idx) : i ∈ ((cfg0.win 4).blk (lastOf (i 0))).view.set := by
  show i ∈ ((View.whole main_v1_1).slice (win0_4.rect (lastOf (i 0)))).set
  rw [View.set_slice_whole, Rect.mem_set_unit]
  obtain ⟨e0, e1, e2, e3⟩ := index_s (lastOf (i 0))
  have h0 : (lastOf (i 0)).val = 8 * (i 0).val + 7 := rfl
  have l1 : (i 1 : Nat) < 32 := (i 1).isLt
  have l2 : (i 2 : Nat) < 8 := (i 2).isLt
  have l3 : (i 3 : Nat) < 2 := (i 3).isLt
  intro a
  show win0_4.index (lastOf (i 0)) a * win0_4.size a ≤ (i a : Nat) ∧ (i a : Nat) < win0_4.index (lastOf (i 0)) a * win0_4.size a + win0_4.xsize (grid0.coords (lastOf (i 0))) a
  rw [xsize_s (i 0)]
  match a with
  | ⟨0, _⟩ => show win0_4.index (lastOf (i 0)) 0 * 1 ≤ (i 0 : Nat) ∧ (i 0 : Nat) < win0_4.index (lastOf (i 0)) 0 * 1 + 1; omega
  | ⟨1, _⟩ => show win0_4.index (lastOf (i 0)) 1 * 32 ≤ (i 1 : Nat) ∧ (i 1 : Nat) < win0_4.index (lastOf (i 0)) 1 * 32 + 32; omega
  | ⟨2, _⟩ => show win0_4.index (lastOf (i 0)) 2 * 8 ≤ (i 2 : Nat) ∧ (i 2 : Nat) < win0_4.index (lastOf (i 0)) 2 * 8 + 8; omega
  | ⟨3, _⟩ => show win0_4.index (lastOf (i 0)) 3 * 2 ≤ (i 3 : Nat) ∧ (i 3 : Nat) < win0_4.index (lastOf (i 0)) 3 * 2 + 2; omega

theorem final_o (c : Dev nD) : (datF m c).arrAt 3 cfg0.N = sumsArr m c :=
  (datF m c).arrAt_eq_of_cover 3 (sumsArr m c) (flushed_o m c) fun i =>
    ⟨lastOf (i 0), (flush0_3 _).mpr (by show (8 * (i 0).val + 7) % 8 = 7; omega), cover_o i⟩
theorem final_s (c : Dev nD) : (datF m c).arrAt 4 cfg0.N = statsArr m c :=
  (datF m c).arrAt_eq_of_cover 4 (statsArr m c) (flushed_s m c) fun i =>
    ⟨lastOf (i 0), (flush0_4 _).mpr (by show (8 * (i 0).val + 7) % 8 = 7; omega), cover_s i⟩

end Cert.KernelIdeal.Value

end
-- ==== Proof.Value.Prefix.lean ====
/- What the flash-decoding call leaves for every batch: the planes after the batch's last block sum up the scores of all the
   device's keys, and the two arrays written hold the sums, the maxima and the weights' sums. -/
module

public import proofs.«01_k».proof.Proof.Value.Blocks

@[expose] public section

set_option maxRecDepth 16384

noncomputable section

namespace Cert.KernelIdeal.Value

open Idealize.ShloMosaic Idealize.ShloMosaic.TcCoe Cert.KernelIdeal Cert.KernelIdeal.Gen Cert.KernelIdeal.Flash Cert.Online
open scoped BigOperators

/-- `S` and `W` list, for batch `b`, the scores and the values of a device's keys. -/
structure Lists (Q : Vec Ideal S4x32x8x128 .f32) (K V : Vec Ideal S4x4096x8x128 .f32) (b : Fin 4)
    (S : Fin 8 → Fin 32 → ℕ → EReal) (W : Fin 8 → Fin 128 → ℕ → EReal) : Prop where
  real : ∀ h q k, IsReal (S h q k)
  score : ∀ h q (k : Fin 4096), (∑ d : Fin 128, Q (ix4 b q h d) * K (ix4 b k h d)) * scale = S h q k.val
  value : ∀ h d (k : Fin 4096), V (ix4 b k h d) = W h d k.val

section
variable (m : (ℓ : Loc nD τ sig) → Buf (Elt Ideal) ℓ) (c : Dev nD) (b : Fin 4)
  {S : Fin 8 → Fin 32 → ℕ → EReal} {W : Fin 8 → Fin 128 → ℕ → EReal}

/-- The point of batch `b`'s block `j`. -/
theorem ptOf_block (j : ℕ) (hj : j < 8) : (ptOf (8 * b.val + j)).val = 8 * b.val + j :=
  Nat.mod_eq_of_lt (by have := b.isLt; omega)

/-- One block of batch `b`: from the sums over the blocks before it to those over it as well. -/
theorem block_step (hL : Lists (m ((c : Thread nD τ).loc main_arg0)) (m ((c : Thread nD τ).loc main_arg1)) (m ((c : Thread nD τ).loc main_arg2)) b S W)
    (j : ℕ) (hj : j < 8) {s : Planes Ideal} (hs : Sums S W (512 * j) (s.start (grid0.coords (ptOf (8 * b.val + j))))) :
    Sums S W (512 * (j + 1)) (planesNext m c (ptOf (8 * b.val + j)) s) := by
  have ht := ptOf_block b j hj
  have hb : batchOf (ptOf (8 * b.val + j)) = b := Fin.ext (by show (ptOf (8 * b.val + j)).val / 8 = _; omega)
  have hk : ∀ r : Fin 512, (keyOf (ptOf (8 * b.val + j)) r).val = 512 * j + r.val := fun r => by
    show 512 * ((ptOf (8 * b.val + j)).val % 8) + r.val = _; omega
  unfold planesNext
  rw [show 512 * (j + 1) = 512 * j + 512 by omega]
  refine sums_step _ _ _ hL.real hs (fun h q r => ?_) fun h d r => ?_
  · simp only [qBlk_apply, kBlk_apply, hb]
    rw [hL.score, hk]
  · rw [vBlk_apply, hb, hL.value, hk]

/-- After block `j` of batch `b` the planes sum up its first `512 * (j + 1)` keys. -/
theorem sums_planes (hL : Lists (m ((c : Thread nD τ).loc main_arg0)) (m ((c : Thread nD τ).loc main_arg1)) (m ((c : Thread nD τ).loc main_arg2)) b S W)
    (j : ℕ) (hj : j < 8) : Sums S W (512 * (j + 1)) (planesAt m c (8 * b.val + j)) := by
  induction j with
  | zero =>
    have hf : First (grid0.coords (ptOf (8 * b.val + 0))) := (first_iff _).mpr (by rw [ptOf_block b 0 hj]; omega)
    have hstart : ∀ s : Planes Ideal, Sums S W (512 * 0) (s.start (grid0.coords (ptOf (8 * b.val + 0)))) := fun s => by
      unfold Planes.start
      rw [if_pos hf]
      exact sums_init S W
    obtain ⟨s, hs⟩ : ∃ s, planesAt m c (8 * b.val + 0) = planesNext m c (ptOf (8 * b.val + 0)) s := by
      match 8 * b.val + 0 with
      | 0 => exact ⟨_, rfl⟩
      | n + 1 => exact ⟨_, rfl⟩
    rw [hs]
    exact block_step m c b hL 0 hj (hstart s)
  | succ j ih =>
    have hf : ¬ First (grid0.coords (ptOf (8 * b.val + (j + 1)))) := fun h => by
      have := (first_iff _).mp h
      rw [ptOf_block b (j + 1) hj] at this
      omega
    show Sums S W _ (planesNext m c (ptOf (8 * b.val + (j + 1))) (planesAt m c (8 * b.val + j)))
    refine block_step m c b hL (j + 1) hj ?_
    unfold Planes.start
    rw [if_neg hf]
    exact ih (by omega)

/-- The arrays written, at an index. -/
theorem sumsArr_apply (hL : Lists (m ((c : Thread nD τ).loc main_arg0)) (m ((c : Thread nD τ).loc main_arg1)) (m ((c : Thread nD τ).loc main_arg2)) b S W)
    (q : Fin 32) (h : Fin 8) (d : Fin 128) : sumsArr m c (ix4 b q h d) = wsum (S h q) (W h d) 4096 (top (S h q) 4096) := by
  show outO (planesAt m c (8 * b.val + 7)) (ix4 0 q h d) = _
  rw [outO_apply]
  exact (sums_planes m c b hL 7 (by omega)).acc h q d
theorem statsArr_max (hL : Lists (m ((c : Thread nD τ).loc main_arg0)) (m ((c : Thread nD τ).loc main_arg1)) (m ((c : Thread nD τ).loc main_arg2)) b S W)
    (q : Fin 32) (h : Fin 8) : statsArr m c (ix4 b q h 0) = top (S h q) 4096 := by
  show outS (planesAt m c (8 * b.val + 7)) (ix4 0 q h 0) = _
  rw [outS_max_apply]
  exact (sums_planes m c b hL 7 (by omega)).mx h q
theorem statsArr_sum (hL : Lists (m ((c : Thread nD τ).loc main_arg0)) (m ((c : Thread nD τ).loc main_arg1)) (m ((c : Thread nD τ).loc main_arg2)) b S W)
    (q : Fin 32) (h : Fin 8) : statsArr m c (ix4 b q h 1) = wsum (S h q) (fun _ => 1) 4096 (top (S h q) 4096) := by
  show outS (planesAt m c (8 * b.val + 7)) (ix4 0 q h 1) = _
  rw [outS_sum_apply]
  exact (sums_planes m c b hL 7 (by omega)).sm h q

end

end Cert.KernelIdeal.Value

end
-- ==== Proof.Value.Result.lean ====
/- What every device holds at the end of the kernel: its weighted values and its partner's, merged. -/
module

public import proofs.«01_k».proof.Proof.Value.Prefix

@[expose] public section

set_option maxRecDepth 16384

noncomputable section

namespace Cert.KernelIdeal.Value

open Idealize.ShloMosaic Idealize.ShloMosaic.TcCoe Cert.KernelIdeal Cert.KernelIdeal.Gen Cert.KernelIdeal.Flash Cert.KernelIdeal.Talk Cert.Online
open Idealize.ShloMosaic.Pipeline (Dat)
open scoped BigOperators

variable (m : (ℓ : Loc nD τ sig) → Buf (Elt Ideal) ℓ)

/-! ## The communication call's whole arrays -/

theorem sums_arr (c : Dev nD) : sums m c = sumsArr m c := by
  rw [← final_o, ← V₁_sums]
  unfold sums
  funext i
  show V₁ m c main_v1_0 (((cfg1.win 0).blk t1_0).view.emb i) = _
  refine congrArg _ (funext fun a => Fin.ext ?_)
  match a with
  | ⟨0, _⟩ => show 0 * 4 + 1 * (i 0).val = (i 0).val; omega
  | ⟨1, _⟩ => show 0 * 32 + 1 * (i 1).val = (i 1).val; omega
  | ⟨2, _⟩ => show 0 * 8 + 1 * (i 2).val = (i 2).val; omega
  | ⟨3, _⟩ => show 0 * 128 + 1 * (i 3).val = (i 3).val; omega
theorem stats_arr (c : Dev nD) : stats m c = statsArr m c := by
  rw [← final_s, ← V₁_stats]
  unfold stats
  funext i
  show V₁ m c main_v1_1 (((cfg1.win 1).blk t1_0).view.emb i) = _
  refine congrArg _ (funext fun a => Fin.ext ?_)
  match a with
  | ⟨0, _⟩ => show 0 * 4 + 1 * (i 0).val = (i 0).val; omega
  | ⟨1, _⟩ => show 0 * 32 + 1 * (i 1).val = (i 1).val; omega
  | ⟨2, _⟩ => show 0 * 8 + 1 * (i 2).val = (i 2).val; omega
  | ⟨3, _⟩ => show 0 * 2 + 1 * (i 3).val = (i 3).val; omega

theorem flushed_r (c : Dev nD) (t : Fin cfg1.N) :
    (dat1 m c).flushed 2 t = ((cfg1.win 2).blk t).view.read (Elt Ideal) (merged m c) := by
  show (cfg1.win 2).cut (grid1.coords t) ((dat1 m c).after 2 t) = _
  rw [after1_2]
  funext i
  show merged m c i = merged m c (((cfg1.win 2).blk t).view.emb i)
  refine congrArg _ (funext fun a => Fin.ext ?_)
  match a with
  | ⟨0, _⟩ => show (i 0).val = 0 * 4 + 1 * (i 0).val; omega
  | ⟨1, _⟩ => show (i 1).val = 0 * 32 + 1 * (i 1).val; omega
  | ⟨2, _⟩ => show (i 2).val = 0 * 8 + 1 * (i 2).val; omega
  | ⟨3, _⟩ => show (i 3).val = 0 * 128 + 1 * (i 3).val; omega

theorem cover_r (i : S4x32x8x128.Idx) : i ∈ ((cfg1.win 2).blk t1_0).view.set := by
  have e : ((cfg1.win 2).blk t1_0).view.emb i = i := by
    refine funext fun a => Fin.ext ?_
    match a with
    | ⟨0, _⟩ => show 0 * 4 + 1 * (i 0).val = (i 0).val; omega
    | ⟨1, _⟩ => show 0 * 32 + 1 * (i 1).val = (i 1).val; omega
    | ⟨2, _⟩ => show 0 * 8 + 1 * (i 2).val = (i 2).val; omega
    | ⟨3, _⟩ => show 0 * 128 + 1 * (i 3).val = (i 3).val; omega
  have h := View.emb_mem_set ((cfg1.win 2).blk t1_0).view i
  rwa [e] at h

/-- The result's array holds the merge. -/
theorem final_r (c : Dev nD) : (dat1 m c).arrAt 2 cfg1.N = merged m c :=
  (dat1 m c).arrAt_eq_of_cover 2 (merged m c) (fun t _ => flushed_r m c t) fun i => ⟨t1_0, flush1_2 _, cover_r i⟩

/-! ## The merge of the two halves of the keys -/

theorem pr_pair : ∀ c : Dev nD, (c.val % 2 = 0 ∧ (pr c).val % 2 = 1) ∨ (c.val % 2 = 1 ∧ (pr c).val % 2 = 0) := by decide

section
variable {S : Fin 8 → Fin 32 → ℕ → EReal} {W : Fin 8 → Fin 128 → ℕ → EReal} (b : Fin 4)

/-- Two devices' halves merged, the first half's first. -/
theorem merge_halves (c c' : Dev nD)
    (h0 : Lists (m ((c : Thread nD τ).loc main_arg0)) (m ((c : Thread nD τ).loc main_arg1)) (m ((c : Thread nD τ).loc main_arg2)) b S W)
    (h1 : Lists (m ((c' : Thread nD τ).loc main_arg0)) (m ((c' : Thread nD τ).loc main_arg1)) (m ((c' : Thread nD τ).loc main_arg2)) b
      (fun h q k => S h q (4096 + k)) (fun h d k => W h d (4096 + k)))
    (q : Fin 32) (h : Fin 8) (d : Fin 128) :
    merge (sumsArr m c) (statsArr m c) (sumsArr m c') (statsArr m c') (ix4 b q h d) = mean (S h q) (W h d) 8192 := by
  rw [merge_apply, sumsArr_apply m c b h0, statsArr_max m c b h0, statsArr_sum m c b h0, sumsArr_apply m c' b h1,
    statsArr_max m c' b h1, statsArr_sum m c' b h1]
  exact merge_eq (h0.real h q) (W h d) (a := 4096) (b := 4096) (by decide) _ rfl

/-- The merge does not see the order of the two halves. -/
theorem merge_comm (x x' : Vec Ideal S4x32x8x128 .f32) (y y' : Vec Ideal S4x32x8x2 .f32) (q : Fin 32) (h : Fin 8) (d : Fin 128) :
    merge x y x' y' (ix4 b q h d) = merge x' y' x y (ix4 b q h d) := by
  rw [merge_apply, merge_apply, max_comm (y (ix4 b q h 0)) (y' (ix4 b q h 0))]
  exact congrArg₂ Ideal.div (add_comm _ _) (add_comm _ _)

/-- Every device's result: the mean of all the values, weighted by the exponentials of all the scores. -/
theorem result_apply
    (hL : ∀ c : Dev nD, Lists (m ((c : Thread nD τ).loc main_arg0)) (m ((c : Thread nD τ).loc main_arg1)) (m ((c : Thread nD τ).loc main_arg2)) b
      (fun h q k => S h q (4096 * (c.val % 2) + k)) (fun h d k => W h d (4096 * (c.val % 2) + k)))
    (c : Dev nD) (q : Fin 32) (h : Fin 8) (d : Fin 128) :
    (dat1 m c).arrAt 2 cfg1.N (ix4 b q h d) = mean (S h q) (W h d) 8192 := by
  rw [final_r]
  unfold merged
  rw [sums_arr, stats_arr, sums_arr, stats_arr]
  have e0 : ∀ c : Dev nD, c.val % 2 = 0 → Lists (m ((c : Thread nD τ).loc main_arg0)) (m ((c : Thread nD τ).loc main_arg1)) (m ((c : Thread nD τ).loc main_arg2)) b S W :=
    fun c hc => by have := hL c; rw [hc] at this; simpa only [Nat.mul_zero, Nat.zero_add] using this
  have e1 : ∀ c : Dev nD, c.val % 2 = 1 → Lists (m ((c : Thread nD τ).loc main_arg0)) (m ((c : Thread nD τ).loc main_arg1)) (m ((c : Thread nD τ).loc main_arg2)) b
      (fun h q k => S h q (4096 + k)) (fun h d k => W h d (4096 + k)) :=
    fun c hc => by have := hL c; rw [hc] at this; simpa only [Nat.mul_one] using this
  rcases pr_pair c with ⟨hc, hp⟩ | ⟨hc, hp⟩
  · exact merge_halves m b c (pr c) (e0 c hc) (e1 _ hp) q h d
  · rw [merge_comm]
    exact merge_halves m b (pr c) c (e0 _ hp) (e1 c hc) q h d

end

end Cert.KernelIdeal.Value

end
-- ==== Proof.Value.Ref.lean ====
/- The reference at an index: the mean of the values, weighted by the exponentials of the scores. -/
module

public import proofs.«01_k».proof.Proof.Gen.ReferenceIdeal.Run
public import proofs.«01_k».proof.Proof.Value.Online
public import Idealize.ShloMosaic.Lib.Pointwise

@[expose] public section

set_option maxRecDepth 16384

noncomputable section

namespace Cert.ReferenceIdeal.Value

open Cert.ReferenceIdeal Cert.ReferenceIdeal.Gen Idealize.ShloMosaic Cert.Online
open scoped BigOperators

/-- The scaled scores, the exponentials of their distance to the row's maximum, and the result. -/
def scores (Q : FVec Ideal S4x32x8x128 .f32) (K : FVec Ideal S4x8192x8x128 .f32) : FVec Ideal S4x8x32x8192 .f32 :=
  mulf (Host.dotGeneral dot_S4x32x8x128_S4x8192x8x128_S4x8x32x8192_3_3_1_1_02_02 none Q K) (broadcastInDim S4x8x32x8192 ![] bcast_S_S4x8x32x8192 (constant S_ .f32 0x3DB504F3#32))
def weights (Q : FVec Ideal S4x32x8x128 .f32) (K : FVec Ideal S4x8192x8x128 .f32) : FVec Ideal S4x8x32x8192 .f32 :=
  Host.exp (subf (scores Q K) (broadcastInDim S4x8x32x8192 ![0, 1, 2, 3] bcast_S4x8x32x1_S4x8x32x8192_0_1_2_3 (broadcastInDim S4x8x32x1 ![0, 1, 2] bcast_S4x8x32_S4x8x32x1_0_1_2 (Host.reduce FloatOps.maximumf (scores Q K) (constant S_ .f32 0xFF800000#32) reducesTo_S4x8x32x8192_S4x8x32_d3 h_S_))))
def result (Q : FVec Ideal S4x32x8x128 .f32) (K V : FVec Ideal S4x8192x8x128 .f32) : FVec Ideal S4x32x8x128 .f32 :=
  transpose S4x32x8x128 [0, 3, 1, 2] (Host.dotGeneral dot_S4x8192x8x128_S4x8x32x8192_S4x8x128x32_1_3_3_2_02_01 none V (Host.divf (weights Q K) (broadcastInDim S4x8x32x8192 ![0, 1, 2, 3] bcast_S4x8x32x1_S4x8x32x8192_0_1_2_3 (broadcastInDim S4x8x32x1 ![0, 1, 2] bcast_S4x8x32_S4x8x32x1_0_1_2 (Host.reduceAdd (weights Q K) (constant S_ .f32 0x00000000#32) reducesTo_S4x8x32x8192_S4x8x32_d3 h_S_))))) transposes_S4x8x128x32_S4x32x8x128_0_3_1_2

/-- The scores and the values of one row, as sequences over the keys. -/
def scoreSeq (Q : FVec Ideal S4x32x8x128 .f32) (K : FVec Ideal S4x8192x8x128 .f32) (b : Fin 4) (h : Fin 8) (q : Fin 32) (k : ℕ) : EReal :=
  if hk : k < 8192 then (∑ d : Fin 128, Q (ix4 b q h d) * K (ix4 b ⟨k, hk⟩ h d)) * Ideal.ofBits .f32 0x3DB504F3#32 else 0
def valueSeq (V : FVec Ideal S4x8192x8x128 .f32) (b : Fin 4) (h : Fin 8) (d : Fin 128) (k : ℕ) : EReal :=
  if hk : k < 8192 then V (ix4 b ⟨k, hk⟩ h d) else 0

section
variable (Q : FVec Ideal S4x32x8x128 .f32) (K V : FVec Ideal S4x8192x8x128 .f32) (b : Fin 4) (h : Fin 8) (q : Fin 32) (d : Fin 128)

theorem scores_apply (k : Fin 8192) : scores Q K (ix4 b h q k) = scoreSeq Q K b h q k.val := by
  rw [scoreSeq, dif_pos k.isLt]
  pointwise [scores]

theorem weights_apply (k : Fin 8192) :
    weights Q K (ix4 b h q k) = Ideal.exp (scoreSeq Q K b h q k.val - top (scoreSeq Q K b h q) 8192) := by
  rw [← fold_eq_top]
  simp only [← scores_apply]
  pointwise [weights]
  rw [show Ideal.ofBits .f32 0xFF800000#32 = ⊥ by simp [Ideal.ofBits, Ideal.ieee]]

theorem result_apply (hS : ∀ k, IsReal (scoreSeq Q K b h q k)) :
    result Q K V (ix4 b q h d) = mean (scoreSeq Q K b h q) (valueSeq V b h d) 8192 := by
  pointwise [result]
  have hl : ∑ k : Fin 8192, weights Q K (ix4 b h q k)
      = wsum (scoreSeq Q K b h q) (fun _ => 1) 8192 (top (scoreSeq Q K b h q) 8192) := by
    rw [← sum_eq_wsum]
    simp only [weights_apply, mul_one]
  rw [hl, ← mean_eq hS (valueSeq V b h d) (by decide : 0 < 8192), Finset.sum_range]
  refine Finset.sum_congr rfl fun k _ => ?_
  rw [weights_apply, valueSeq, dif_pos k.isLt]

end

end Cert.ReferenceIdeal.Value

end
-- ==== Proof.Equation.lean ====
/- The equation: for finite queries and keys every device's result is the reference's. -/
module

public import proofs.«01_k».proof.Proof.Pre
public import proofs.«01_k».proof.Proof.Value.Result
public import proofs.«01_k».proof.Proof.Value.Ref

@[expose] public section

set_option maxRecDepth 16384

noncomputable section

namespace Cert.Proof

open Idealize.ShloMosaic Idealize.ShloMosaic.TcCoe Idealize.SL.Sem Cert.Online
open Cert.KernelIdeal.Value (Lists scale)
open Cert.ReferenceIdeal.Value (scoreSeq valueSeq)
open scoped BigOperators

attribute [local instance] Cert.KernelIdeal.Gen.facts Cert.ReferenceIdeal.Gen.facts

/-! ## A device's block of the keys and of the values -/

/-- Device `c`'s block of an array over all the keys. -/
abbrev blockOf (c : Dev Cert.KernelIdeal.nD) (K : FVec Ideal Cert.ReferenceIdeal.S4x8192x8x128 .f32) : FVec Ideal Cert.KernelIdeal.S4x4096x8x128 .f32 :=
  Layout.blockN ⟨4, ![4, 4096, 8, 128]⟩ ⟨4, ![4, 8192, 8, 128]⟩ (Layout.meshBlock [2, 2] ![[], [1], [], []] c) K

theorem blockOf_apply (c : Dev Cert.KernelIdeal.nD) (K : FVec Ideal Cert.ReferenceIdeal.S4x8192x8x128 .f32) (b : Fin 4) (k : Fin 4096)
    (h : Fin 8) (d : Fin 128) :
    blockOf c K (ix4 b k h d) = K (ix4 b ⟨4096 * (c.val % 2) + k.val, by have := k.isLt; omega⟩ h d) := by
  rw [blockOf, Layout.blockN_apply]
  refine congrArg K (funext fun a => Fin.ext ?_)
  have hc : Layout.meshLin [2, 2] c.val [1] = c.val % 2 := by
    show (c.val / 1) % 2 * 1 + 0 = _; omega
  match a with
  | ⟨0, _⟩ => show 0 * 4 + b.val = b.val; omega
  | ⟨1, _⟩ => show Layout.meshLin [2, 2] c.val [1] * 4096 + k.val = 4096 * (c.val % 2) + k.val; omega
  | ⟨2, _⟩ => show 0 * 8 + h.val = h.val; omega
  | ⟨3, _⟩ => show 0 * 128 + d.val = d.val; omega

/-! ## The scores are real numbers -/

theorem scale_isReal : IsReal scale := by
  simp only [scale, Ideal.ofBits, Ideal.ieee]
  exact ⟨_, rfl⟩

theorem scoreSeq_isReal {Q : FVec Ideal Cert.ReferenceIdeal.S4x32x8x128 .f32} {K : FVec Ideal Cert.ReferenceIdeal.S4x8192x8x128 .f32}
    (hQ : ∀ i, IsReal (Q i)) (hK : ∀ b k h d, IsReal (K (ix4 b k h d))) (b : Fin 4) (h : Fin 8) (q : Fin 32) (k : ℕ) :
    IsReal (scoreSeq Q K b h q k) := by
  unfold scoreSeq
  split
  · exact (IsReal.sum _ _ fun d _ => (hQ _).mul (hK _ _ _ _)).mul scale_isReal
  · exact ⟨0, rfl⟩

/-- All the keys are real numbers where both blocks are. -/
theorem keys_isReal {K : FVec Ideal Cert.ReferenceIdeal.S4x8192x8x128 .f32} (h : ∀ c : Dev Cert.KernelIdeal.nD, ∀ i, IsReal (blockOf c K i))
    (b : Fin 4) (k : Fin 8192) (hh : Fin 8) (d : Fin 128) : IsReal (K (ix4 b k hh d)) := by
  have key : ∀ (c : Dev Cert.KernelIdeal.nD) (r : Fin 4096), 4096 * (c.val % 2) + r.val = k.val → IsReal (K (ix4 b k hh d)) := fun c r e => by
    have := h c (ix4 b r hh d)
    rw [blockOf_apply] at this
    rwa [show (⟨4096 * (c.val % 2) + r.val, by have := r.isLt; omega⟩ : Fin 8192) = k from Fin.ext e] at this
  by_cases hk : k.val < 4096
  · exact key 0 ⟨k.val, hk⟩ (by show 4096 * (0 % 2) + k.val = k.val; omega)
  · exact key 1 ⟨k.val - 4096, by have := k.isLt; omega⟩ (by show 4096 * (1 % 2) + (k.val - 4096) = k.val; omega)

/-- A device's scores and values are its half of the reference's. -/
theorem lists {Q : FVec Ideal Cert.ReferenceIdeal.S4x32x8x128 .f32} {K V : FVec Ideal Cert.ReferenceIdeal.S4x8192x8x128 .f32}
    (hS : ∀ b h q k, IsReal (scoreSeq Q K b h q k)) (c : Dev Cert.KernelIdeal.nD) (b : Fin 4) :
    Lists Q (blockOf c K) (blockOf c V) b (fun h q k => scoreSeq Q K b h q (4096 * (c.val % 2) + k))
      (fun h d k => valueSeq V b h d (4096 * (c.val % 2) + k)) where
  real h q k := hS b h q _
  score h q k := by
    have hk : 4096 * (c.val % 2) + k.val < 8192 := by have := k.isLt; omega
    rw [scoreSeq, dif_pos hk]
    simp only [blockOf_apply]
    rfl
  value h d k := by
    have hk : 4096 * (c.val % 2) + k.val < 8192 := by have := k.isLt; omega
    rw [valueSeq, dif_pos hk, blockOf_apply]

/-! ## The claim -/

theorem algebraic : Cert.algebraic_KernelIdeal_ReferenceIdeal_pre_finite_queries_keys_KernelIdeal (hKernelIdeal := Cert.KernelIdeal.Gen.facts)
    (hReferenceIdeal := Cert.ReferenceIdeal.Gen.facts) (hPre_finite_queries_keys_KernelIdeal := pre_kernel_facts) := by
  intro m g m' g' hpre hin
  let Q : FVec Ideal Cert.ReferenceIdeal.S4x32x8x128 .f32 := m' (((0 : Dev Cert.ReferenceIdeal.nD).tc : Thread Cert.ReferenceIdeal.nD Cert.ReferenceIdeal.τ).loc Cert.ReferenceIdeal.main_arg0)
  let K : FVec Ideal Cert.ReferenceIdeal.S4x8192x8x128 .f32 := m' (((0 : Dev Cert.ReferenceIdeal.nD).tc : Thread Cert.ReferenceIdeal.nD Cert.ReferenceIdeal.τ).loc Cert.ReferenceIdeal.main_arg1)
  let V : FVec Ideal Cert.ReferenceIdeal.S4x8192x8x128 .f32 := m' (((0 : Dev Cert.ReferenceIdeal.nD).tc : Thread Cert.ReferenceIdeal.nD Cert.ReferenceIdeal.τ).loc Cert.ReferenceIdeal.main_arg2)
  have hr : ∀ c : Dev Cert.KernelIdeal.nD, (∀ i, IsReal (Q i)) ∧ ∀ i, IsReal (blockOf c K i) := fun c => by
    have h := isReal_of_pre _ _ _ (hpre c)
    rw [(hin c).1, (hin c).2.1] at h
    exact h
  have hS : ∀ b h q k, IsReal (scoreSeq Q K b h q k) :=
    fun b h q k => scoreSeq_isReal (hr 0).1 (keys_isReal fun c => (hr c).2) b h q k
  have hL : ∀ (b : Fin 4) (c : Dev Cert.KernelIdeal.nD),
      Lists (m ((c : Thread Cert.KernelIdeal.nD Cert.KernelIdeal.τ).loc Cert.KernelIdeal.main_arg0))
        (m ((c : Thread Cert.KernelIdeal.nD Cert.KernelIdeal.τ).loc Cert.KernelIdeal.main_arg1))
        (m ((c : Thread Cert.KernelIdeal.nD Cert.KernelIdeal.τ).loc Cert.KernelIdeal.main_arg2)) b
        (fun h q k => scoreSeq Q K b h q (4096 * (c.val % 2) + k)) (fun h d k => valueSeq V b h d (4096 * (c.val % 2) + k)) := fun b c => by
    rw [(hin c).1, (hin c).2.1, (hin c).2.2]
    exact lists hS c b
  have hout : ∀ c : Dev Cert.KernelIdeal.nD,
      (Cert.KernelIdeal.Talk.dat1 m c).arrAt 2 Cert.KernelIdeal.cfg1.N = Cert.ReferenceIdeal.Value.result Q K V := fun c => by
    funext i
    have e : i = ix4 (i 0) (i 1) (i 2) (i 3) := funext fun a => by
      match a with
      | ⟨0, _⟩ => rfl
      | ⟨1, _⟩ => rfl
      | ⟨2, _⟩ => rfl
      | ⟨3, _⟩ => rfl
    rw [e]
    exact (Cert.KernelIdeal.Value.result_apply m (i 0) (hL (i 0)) c (i 1) (i 2) (i 3)).trans
      (Cert.ReferenceIdeal.Value.result_apply Q K V (i 0) (i 2) (i 1) (i 3) (hS _ _ _)).symm
  refine ⟨Cert.ReferenceIdeal.Value.result Q K V, ?_, ?_⟩
  · exact (θ_run Cert.KernelIdeal.defs _ _).mono
      (fun r h c => ⟨(h.1 c).2.2.2.trans (hout c), (h.1 c).1, (h.1 c).2.1, (h.1 c).2.2.1⟩)
      (Cert.KernelIdeal.Talk.run_main (F := Ideal) m g)
  · exact (θ_run Cert.ReferenceIdeal.defs _ _).mono (fun r h => h 0) (Cert.ReferenceIdeal.Value.run (F := Ideal) m' g')

end Cert.Proof

end
-- ==== Proof.lean ====
/- The proof of the certificate's claim: the frames of the kernel, the ideal kernel and the reference, and that the ideal kernel
   and the reference compute the same function. -/
module

public import proofs.«01_k».proof.Defs
public import proofs.«01_k».proof.Proof.Equation

@[expose] public section

noncomputable section

namespace Cert.Proof

/-- The claim: each conjunct is a theorem of the modules under `Proof/`. -/
theorem claim : Cert.Claim :=
  ⟨Cert.Kernel.Gen.facts, Cert.KernelIdeal.Gen.facts, Cert.ReferenceIdeal.Gen.facts, pre_kernel_facts, pre_reference_facts,
    frame_kernel, frame_ideal, frame_ideal_pre, frame_reference, frame_reference_pre, trivial, algebraic⟩

end Cert.Proof

end
